-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_normal_rows [hPre_normal_rows : Cert.Pre_normal_rows.Facts] (m : (ℓ : Loc Cert.KernelIdeal.nD Cert.KernelIdeal.τ Cert.KernelIdeal.sig) → Buf (Elt Ideal) ℓ) : Prop :=
  ∀ c : Dev Cert.KernelIdeal.nD,
    (Cert.Pre_normal_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_normal_rows [hPre_normal_rows : Cert.Pre_normal_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_normal_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_normal_rows [hKernelIdeal : Cert.KernelIdeal.Facts] [hPre_normal_rows : Cert.Pre_normal_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_normal_rows m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_normal_rows [hReferenceIdeal : Cert.ReferenceIdeal.Facts] [hPre_normal_rows : Cert.Pre_normal_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_normal_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_normal_rows [hKernelIdeal : Cert.KernelIdeal.Facts] [hReferenceIdeal : Cert.ReferenceIdeal.Facts] [hPre_normal_rows : Cert.Pre_normal_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_normal_rows m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10_0) = v0 c
          ∧ r.2.mem ((c.tc : Thread Cert.ReferenceIdeal.nD Cert.ReferenceIdeal.τ).loc Cert.ReferenceIdeal.main_v10_1) = v1 c
          ∧ r.2.mem ((c.tc : Thread Cert.ReferenceIdeal.nD Cert.ReferenceIdeal.τ).loc Cert.ReferenceIdeal.main_v10_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_normal_rows : Cert.Pre_normal_rows.Facts),
    quiescent_Kernel (hKernel := hKernel)
    ∧ quiescent_KernelIdeal (hKernelIdeal := hKernelIdeal)
    ∧ quiescent_KernelIdeal_pre_normal_rows (hKernelIdeal := hKernelIdeal) (hPre_normal_rows := hPre_normal_rows)
    ∧ quiescent_ReferenceIdeal (hReferenceIdeal := hReferenceIdeal)
    ∧ quiescent_ReferenceIdeal_pre_normal_rows (hReferenceIdeal := hReferenceIdeal) (hPre_normal_rows := hPre_normal_rows)
    ∧ preserves_Kernel_KernelIdeal
    ∧ algebraic_KernelIdeal_ReferenceIdeal_pre_normal_rows (hKernelIdeal := hKernelIdeal) (hReferenceIdeal := hReferenceIdeal) (hPre_normal_rows := hPre_normal_rows)
-- ==== Pre_normal_rows.lean ====
abbrev S1x384x3072 : Shape := ⟨3, ![1, 384, 3072]⟩
abbrev S3072x20224 : Shape := ⟨2, ![3072, 20224]⟩
abbrev S20224 : Shape := ⟨1, ![20224]⟩
abbrev S4x3072x16 : Shape := ⟨3, ![4, 3072, 16]⟩
abbrev S4x16x20224 : Shape := ⟨3, ![4, 16, 20224]⟩
abbrev S1x384 : Shape := ⟨2, ![1, 384]⟩
abbrev S_ : Shape := ⟨0, ![]⟩

class Facts : Prop where
  bitsLt_bf16_f32 : FTy.bits .bf16 < FTy.bits .f32
  reducesTo_S1x384x3072_S1x384_d2 : S1x384x3072.ReducesTo [2] S1x384
  h_S_ : 0 < S_.numel
  bcast_S_S1x384 : S_.BroadcastsInDim S1x384 (![] : Fin 0 → Fin S1x384.rank)

variable [Facts]

def fn {F : FTy → Type} [FloatOps F] (main_arg0 : FVec F S1x384x3072 .bf16) (main_arg1 : FVec F S3072x20224 .fp8e4m3) (main_arg2 : FVec F S20224 .f32) (main_arg3 : FVec F S4x3072x16 .bf16) (main_arg4 : FVec F S4x16x20224 .bf16) (main_arg5 : IVec S1x384 32) : IVec S1x384 1 :=
  let main_v0 : FVec F S1x384x3072 .f32 := (extf .f32 · bitsLt_bf16_f32) main_arg0
  let main_v1 : FVec F S1x384x3072 .f32 := Host.absf main_v0
  let main_cst : FVec F S_ .f32 := constant S_ .f32 0xFF800000#32
  let main_v2 : FVec F S1x384 .f32 := (fun x v => Host.reduce FloatOps.maximumf x v reducesTo_S1x384x3072_S1x384_d2 h_S_) main_v1 main_cst
  let main_cst_0 : FVec F S_ .f32 := constant S_ .f32 0x3B124925#32
  let main_v3 : FVec F S1x384 .f32 := broadcastInDim S1x384 ![] bcast_S_S1x384 main_cst_0
  let main_v4 : FVec F S1x384 .f32 := mulf main_v2 main_v3
  let main_cst_1 : FVec F S_ .f32 := constant S_ .f32 0x00000000#32
  let main_v5 : FVec F S1x384 .f32 := broadcastInDim S1x384 ![] bcast_S_S1x384 main_cst_1
  let main_v6 : IVec S1x384 1 := cmpf .oeq main_v4 main_v5
  let main_cst_2 : FVec F S_ .f32 := constant S_ .f32 0x00800000#32
  let main_v7 : FVec F S1x384 .f32 := broadcastInDim S1x384 ![] bcast_S_S1x384 main_cst_2
  let main_v8 : IVec S1x384 1 := cmpf .oge main_v4 main_v7
  let main_cst_3 : FVec F S_ .f32 := constant S_ .f32 0x7E800000#32
  let main_v9 : FVec F S1x384 .f32 := broadcastInDim S1x384 ![] bcast_S_S1x384 main_cst_3
  let main_v10 : IVec S1x384 1 := cmpf .olt main_v4 main_v9
  let main_v11 : IVec S1x384 1 := andi main_v8 main_v10
  let main_v12 : IVec S1x384 1 := ori main_v6 main_v11
  main_v12
-- ==== Kernel.lean ====
abbrev S1x384x3072 : Shape := ⟨3, ![1, 384, 3072]⟩
abbrev S3072x20224 : Shape := ⟨2, ![3072, 20224]⟩
abbrev S20224 : Shape := ⟨1, ![20224]⟩
abbrev S4x3072x16 : Shape := ⟨3, ![4, 3072, 16]⟩
abbrev S4x16x20224 : Shape := ⟨3, ![4, 16, 20224]⟩
abbrev S1x384 : Shape := ⟨2, ![1, 384]⟩
abbrev S384x3072 : Shape := ⟨2, ![384, 3072]⟩
abbrev S1x20224 : Shape := ⟨2, ![1, 20224]⟩
abbrev S4x16x3072 : Shape := ⟨3, ![4, 16, 3072]⟩
abbrev S64x3072 : Shape := ⟨2, ![64, 3072]⟩
abbrev S64x20224 : Shape := ⟨2, ![64, 20224]⟩
abbrev S384x20224 : Shape := ⟨2, ![384, 20224]⟩
abbrev S384x1 : Shape := ⟨2, ![384, 1]⟩
abbrev S3072x512 : Shape := ⟨2, ![3072, 512]⟩
abbrev S1x512 : Shape := ⟨2, ![1, 512]⟩
abbrev S64x512 : Shape := ⟨2, ![64, 512]⟩
abbrev S384x512 : Shape := ⟨2, ![384, 512]⟩
abbrev S384x64 : Shape := ⟨2, ![384, 64]⟩
abbrev S384 : Shape := ⟨1, ![384]⟩
abbrev S64x384 : Shape := ⟨2, ![64, 384]⟩

abbrev nBuf : Space → Nat
  | .hbm => 14
  | .vmem => 15
  | .smem => 0
  | _ => 0

abbrev bufTy : (tb : Table) → Fin (tcTables nBuf tb) → BufTy
  | .hbm, ⟨0, _⟩ => ⟨S1x384x3072, .bf16⟩
  | .hbm, ⟨1, _⟩ => ⟨S3072x20224, .fp8e4m3⟩
  | .hbm, ⟨2, _⟩ => ⟨S20224, .f32⟩
  | .hbm, ⟨3, _⟩ => ⟨S4x3072x16, .bf16⟩
  | .hbm, ⟨4, _⟩ => ⟨S4x16x20224, .bf16⟩
  | .hbm, ⟨5, _⟩ => ⟨S1x384, .i32⟩
  | .hbm, ⟨6, _⟩ => ⟨S384x3072, .bf16⟩
  | .hbm, ⟨7, _⟩ => ⟨S1x20224, .f32⟩
  | .hbm, ⟨8, _⟩ => ⟨S4x16x3072, .bf16⟩
  | .hbm, ⟨9, _⟩ => ⟨S64x3072, .bf16⟩
  | .hbm, ⟨10, _⟩ => ⟨S64x20224, .bf16⟩
  | .hbm, ⟨11, _⟩ => ⟨S384x20224, .bf16⟩
  | .hbm, ⟨12, _⟩ => ⟨S384x3072, .fp8e4m3⟩
  | .hbm, ⟨13, _⟩ => ⟨S384x1, .f32⟩
  | .local _ .vmem, ⟨0, _⟩ => ⟨S384x3072, .bf16⟩
  | .local _ .vmem, ⟨1, _⟩ => ⟨S3072x512, .fp8e4m3⟩
  | .local _ .vmem, ⟨2, _⟩ => ⟨S3072x512, .fp8e4m3⟩
  | .local _ .vmem, ⟨3, _⟩ => ⟨S1x512, .f32⟩
  | .local _ .vmem, ⟨4, _⟩ => ⟨S1x512, .f32⟩
  | .local _ .vmem, ⟨5, _⟩ => ⟨S64x3072, .bf16⟩
  | .local _ .vmem, ⟨6, _⟩ => ⟨S64x512, .bf16⟩
  | .local _ .vmem, ⟨7, _⟩ => ⟨S64x512, .bf16⟩
  | .local _ .vmem, ⟨8, _⟩ => ⟨S1x384, .i32⟩
  | .local _ .vmem, ⟨9, _⟩ => ⟨S384x512, .bf16⟩
  | .local _ .vmem, ⟨10, _⟩ => ⟨S384x512, .bf16⟩
  | .local _ .vmem, ⟨11, _⟩ => ⟨S384x3072, .fp8e4m3⟩
  | .local _ .vmem, ⟨12, _⟩ => ⟨S384x1, .f32⟩
  | .local _ .vmem, ⟨13, _⟩ => ⟨S384x64, .bf16⟩
  | .local _ .vmem, ⟨14, _⟩ => ⟨S384x1, .f32⟩
  | _, _ => ⟨S1x384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![40], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S384x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3072x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S64x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x384 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S384x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S384x3072 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S384x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S1x384x3072 : Shape := ⟨3, ![1, 384, 3072]⟩
abbrev S3072x20224 : Shape := ⟨2, ![3072, 20224]⟩
abbrev S20224 : Shape := ⟨1, ![20224]⟩
abbrev S4x3072x16 : Shape := ⟨3, ![4, 3072, 16]⟩
abbrev S4x16x20224 : Shape := ⟨3, ![4, 16, 20224]⟩
abbrev S1x384 : Shape := ⟨2, ![1, 384]⟩
abbrev S1x384x4x16 : Shape := ⟨4, ![1, 384, 4, 16]⟩
abbrev S1x384x1 : Shape := ⟨3, ![1, 384, 1]⟩
abbrev S1x1x4 : Shape := ⟨3, ![1, 1, 4]⟩
abbrev S1x384x4 : Shape := ⟨3, ![1, 384, 4]⟩
abbrev S1x384x4x1 : Shape := ⟨4, ![1, 384, 4, 1]⟩
abbrev S1x384x20224 : Shape := ⟨3, ![1, 384, 20224]⟩
abbrev S384x3072 : Shape := ⟨2, ![384, 3072]⟩
abbrev S1x20224 : Shape := ⟨2, ![1, 20224]⟩
abbrev S384x20224 : Shape := ⟨2, ![384, 20224]⟩
abbrev S384x1 : Shape := ⟨2, ![384, 1]⟩
abbrev S384 : Shape := ⟨1, ![384]⟩
abbrev S384x252 : Shape := ⟨2, ![384, 252]⟩

abbrev nBuf : Space → Nat
  | .hbm => 24
  | .vmem => 7
  | .smem => 0
  | _ => 0

abbrev bufTy : (tb : Table) → Fin (tcTables nBuf tb) → BufTy
  | .hbm, ⟨0, _⟩ => ⟨S1x384x3072, .bf16⟩
  | .hbm, ⟨1, _⟩ => ⟨S3072x20224, .fp8e4m3⟩
  | .hbm, ⟨2, _⟩ => ⟨S20224, .f32⟩
  | .hbm, ⟨3, _⟩ => ⟨S4x3072x16, .bf16⟩
  | .hbm, ⟨4, _⟩ => ⟨S4x16x20224, .bf16⟩
  | .hbm, ⟨5, _⟩ => ⟨S1x384, .i32⟩
  | .hbm, ⟨6, _⟩ => ⟨S1x384x4x16, .f32⟩
  | .hbm, ⟨7, _⟩ => ⟨S1x384x4x16, .bf16⟩
  | .hbm, ⟨8, _⟩ => ⟨S1x384x1, .i32⟩
  | .hbm, ⟨9, _⟩ => ⟨S1x1x4, .i32⟩
  | .hbm, ⟨10, _⟩ => ⟨S1x384x4, .i32⟩
  | .hbm, ⟨11, _⟩ => ⟨S1x384x4, .i32⟩
  | .hbm, ⟨12, _⟩ => ⟨S1x384x4, .i1⟩
  | .hbm, ⟨13, _⟩ => ⟨S1x384x4, .bf16⟩
  | .hbm, ⟨14, _⟩ => ⟨S1x384x4x1, .bf16⟩
  | .hbm, ⟨15, _⟩ => ⟨S1x384x4x16, .bf16⟩
  | .hbm, ⟨16, _⟩ => ⟨S1x384x4x16, .bf16⟩
  | .hbm, ⟨17, _⟩ => ⟨S1x384x20224, .f32⟩
  | .hbm, ⟨18, _⟩ => ⟨S384x3072, .bf16⟩
  | .hbm, ⟨19, _⟩ => ⟨S1x20224, .f32⟩
  | .hbm, ⟨20, _⟩ => ⟨S384x20224, .f32⟩
  | .hbm, ⟨21, _⟩ => ⟨S384x20224, .bf16⟩
  | .hbm, ⟨22, _⟩ => ⟨S384x3072, .fp8e4m3⟩
  | .hbm, ⟨23, _⟩ => ⟨S384x1, .f32⟩
  | .local _ .vmem, ⟨0, _⟩ => ⟨S384x3072, .bf16⟩
  | .local _ .vmem, ⟨1, _⟩ => ⟨S3072x20224, .fp8e4m3⟩
  | .local _ .vmem, ⟨2, _⟩ => ⟨S1x20224, .f32⟩
  | .local _ .vmem, ⟨3, _⟩ => ⟨S384x20224, .f32⟩
  | .local _ .vmem, ⟨4, _⟩ => ⟨S384x20224, .bf16⟩
  | .local _ .vmem, ⟨5, _⟩ => ⟨S384x3072, .fp8e4m3⟩
  | .local _ .vmem, ⟨6, _⟩ => ⟨S384x1, .f32⟩
  | _, _ => ⟨S1x384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev main_v10_2 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S384x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x20224 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x20224 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S384x20224 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S384x20224 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S384x3072 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S384x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KernelBody.lean ====
/-
  The kernel's body, at every grid point, over any float values (hand-written, untrusted).

  The body has two cases. At the first grid point it computes, from the activations, the adapter factors and the
  tokens' adapter numbers, the codes, the scales and the masked projections, and keeps them in the two result blocks
  that stay in place and in the two scratch buffers. At every point it multiplies the codes with its block of weights,
  the masked projections with its block of the second adapter factors, and stores its block of `y`.
-/
module

public import proofs.«01_k».proof.Proof.Gen.Kernel.Frame
public import proofs.«01_k».proof.Proof.Gen.Kernel.Skeleton
public import Idealize.ShloMosaic.Lib.Pipeline.Value
public import Idealize.ShloMosaic.Lib.VecWindow

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## What the body computes -/

/-- The exponents of the rows' scales, from the activations. -/
def expo (x : Vec F S384x3072 .bf16) : IVec S384x1 32 := k0_pay8 (k0_pay4 x) (k0_pay5 x) (k0_pay6 x) k0_pay7

/-- The codes, from the activations. -/
def codes (x : Vec F S384x3072 .bf16) : FVec F S384x3072 .fp8e4m3 := k0_pay10 (k0_pay3 x) (expo x)

/-- The rows' scales, from the activations, as the result block holds them, -/
def scale (x : Vec F S384x3072 .bf16) : FVec F S384x1 .f32 := k0_pay9 (F := F) (expo x) 127#32

/-- and as the scratch buffer holds them. -/
def scaleS (x : Vec F S384x3072 .bf16) : FVec F S384x1 .f32 := k0_pay11 (F := F) (expo x) 127#32

/-- The masked projections, from the activations, the first adapter factors and the tokens' adapter numbers. -/
def proj (x : Vec F S384x3072 .bf16) (la : Vec F S64x3072 .bf16) (tok : Vec F S1x384 .i32) : FVec F S384x64 .bf16 :=
  k0_pay1 (k0_pay12 (k0_pay3 x) la) (iota .tc S64x384 32 [0] iota_S64x384_d0_w32) 16#32 k0_pay13 k0_pay14 tok

/-- The origin, written as a literal. -/
theorem zero2 : (![0, 0] : Fin 2 → ℕ) = fun _ => 0 := funext fun a => by fin_cases a <;> rfl

/-! ## The body's two cases -/

set_option maxHeartbeats 2000000 in
/-- The body at the first grid point. -/
theorem sound_first (c : Dev nD) (E : Set ℕ) (i : grid0.Coords) (hc : k0_cond1 i = 1#1)
    (arg1 : Memref sig .tc .vmem S384x3072 .bf16) (harg1 : arg1.IsWhole) (arg2 : Memref sig .tc .vmem S3072x512 .fp8e4m3) (harg2 : arg2.IsWhole) (arg3 : Memref sig .tc .vmem S1x512 .f32) (harg3 : arg3.IsWhole) (arg4 : Memref sig .tc .vmem S64x3072 .bf16) (harg4 : arg4.IsWhole) (arg5 : Memref sig .tc .vmem S64x512 .bf16) (harg5 : arg5.IsWhole) (arg6 : Memref sig .tc .vmem S1x384 .i32) (harg6 : arg6.IsWhole) (arg7 : Memref sig .tc .vmem S384x512 .bf16) (harg7 : arg7.IsWhole) (arg8 : Memref sig .tc .vmem S384x3072 .fp8e4m3) (harg8 : arg8.IsWhole) (arg9 : Memref sig .tc .vmem S384x1 .f32) (harg9 : arg9.IsWhole) (arg10 : Memref sig .tc .vmem S384x64 .bf16) (harg10 : arg10.IsWhole) (arg11 : Memref sig .tc .vmem S384x1 .f32) (harg11 : arg11.IsWhole)
    (x : Vec F S384x3072 .bf16) (w : Vec F S3072x512 .fp8e4m3) (ws : Vec F S1x512 .f32) (la : Vec F S64x3072 .bf16) (lb : Vec F S64x512 .bf16) (tok : Vec F S1x384 .i32) (K : PUnit → sProp 𝕄) :
    iprop(owns (c : Thread nD τ) arg1 fullShare x ∗ owns (c : Thread nD τ) arg2 fullShare w ∗ owns (c : Thread nD τ) arg3 fullShare ws ∗ owns (c : Thread nD τ) arg4 fullShare la ∗ owns (c : Thread nD τ) arg5 fullShare lb ∗ owns (c : Thread nD τ) arg6 fullShare tok
        ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x ∗ owns (c : Thread nD τ) arg2 fullShare w ∗ owns (c : Thread nD τ) arg3 fullShare ws ∗ owns (c : Thread nD τ) arg4 fullShare la ∗ owns (c : Thread nD τ) arg5 fullShare lb ∗ owns (c : Thread nD τ) arg6 fullShare tok
            ∗ owns (c : Thread nD τ) arg7 fullShare (k0_pay2 (codes x) w (proj x la tok) lb (scaleS x) ws) ∗ owns (c : Thread nD τ) arg8 fullShare (codes x) ∗ owns (c : Thread nD τ) arg9 fullShare (scale x) ∗ owns (c : Thread nD τ) arg10 fullShare (proj x la tok) ∗ owns (c : Thread nD τ) arg11 fullShare (scaleS x)) -∗ K ⟨⟩))
      ⊢ wp frame (wpE (defs₀ (F := F)) Variants.none c none) E (cc0_fp8_lora_linear i arg1 harg1 arg2 harg2 arg3 harg3 arg4 harg4 arg5 harg5 arg6 harg6 arg7 harg7 arg8 harg8 arg9 harg9 arg10 harg10 arg11 harg11) K := by
  simp only [cc0_fp8_lora_linear_eq_skeleton]; unfold cc0_fp8_lora_linear_skel
  simp only [k0_part1_eq_skeleton, k0_part2_eq_skeleton, k0_part3_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, Hk⟩
  subst hf1 hf2 hf3 hf4 hf5 hf6
  sl_exec (disch := sl_exact hc)
  sl_step
  have h1 : View.readAt (Elt F) arg1.view (Rect.unit ![0, 0] S384x3072.size inb_S384x3072_S384x3072_0_0).toLoadRect f1 = View.read (Elt F) arg1.view f1 := View.readAt_full _ _ inb_S384x3072_S384x3072_0_0
  have h2 : View.readAt (Elt F) arg2.view (Rect.unit ![0, 0] ![3072, 512] inb_S3072x512_S3072x512_0_0).toLoadRect f2 = View.read (Elt F) arg2.view f2 := View.readAt_full _ _ inb_S3072x512_S3072x512_0_0
  have h3 : View.readAt (Elt F) arg3.view (Rect.unit ![0, 0] ![1, 512] inb_S1x512_S1x512_0_0).toLoadRect f3 = View.read (Elt F) arg3.view f3 := View.readAt_full _ _ inb_S1x512_S1x512_0_0
  have h4 : View.readAt (Elt F) arg4.view (Rect.unit ![0, 0] S64x3072.size inb_S64x3072_S64x3072_0_0).toLoadRect f4 = View.read (Elt F) arg4.view f4 := View.readAt_full _ _ inb_S64x3072_S64x3072_0_0
  have h5 : View.readAt (Elt F) arg5.view (Rect.unit ![0, 0] ![64, 512] inb_S64x512_S64x512_0_0).toLoadRect f5 = View.read (Elt F) arg5.view f5 := View.readAt_full _ _ inb_S64x512_S64x512_0_0
  have h6 : View.readAt (Elt F) arg6.view (Rect.unit ![0, 0] ![1, 384] inb_S1x384_S1x384_0_0).toLoadRect f6 = View.read (Elt F) arg6.view f6 := View.readAt_full _ _ inb_S1x384_S1x384_0_0
  have hr : sound_first.sl.r c arg1 f1 = k0_pay3 (View.read (Elt F) arg1.view f1) := by
    unfold sound_first.sl.r; rw [h1]
  have hr4 : sound_first.sl.r_4 c arg1 f1 = expo (View.read (Elt F) arg1.view f1) := by
    unfold sound_first.sl.r_4 sound_first.sl.r_1 sound_first.sl.r_2 sound_first.sl.r_3; rw [h1]; rfl
  have h81 : sound_first.sl.H8_1 c arg1 f1 = [⟨Rect.unit ![0, 0] S384x3072.size inb_S384x3072_S384x3072_0_0, codes (View.read (Elt F) arg1.view f1)⟩] := by
    unfold sound_first.sl.H8_1; rw [hr, hr4]; rfl
  have h101 : sound_first.sl.H10_1 c arg1 arg4 arg6 f1 f4 f6 = [⟨Rect.unit ![0, 0] S384x64.size inb_S384x64_S384x64_0_0, proj (View.read (Elt F) arg1.view f1) (View.read (Elt F) arg4.view f4) (View.read (Elt F) arg6.view f6)⟩] := by
    unfold sound_first.sl.H10_1 sound_first.sl.r_5 sound_first.sl.v139; rw [hr, h4, h6]; rfl
  have h111 : sound_first.sl.H11_1 c arg1 f1 = [⟨Rect.unit ![0, 0] S384x1.size inb_S384x1_S384x1_0_0, scaleS (View.read (Elt F) arg1.view f1)⟩] := by
    unfold sound_first.sl.H11_1; rw [hr4]; rfl
  have hv3 : sound_first.sl.v3 c arg1 arg8 f1 = codes (View.read (Elt F) arg1.view f1) := by
    unfold sound_first.sl.v3; rw [h81]
    exact View.readCov_full arg8.view inb_S384x3072_S384x3072_0_0 inb_S384x3072_S384x3072_0_0 _ _
  have hv7 : sound_first.sl.v7 c arg1 arg4 arg6 arg10 f1 f4 f6 = proj (View.read (Elt F) arg1.view f1) (View.read (Elt F) arg4.view f4) (View.read (Elt F) arg6.view f6) := by
    unfold sound_first.sl.v7; rw [h101]
    exact View.readCov_full arg10.view inb_S384x64_S384x64_0_0 inb_S384x64_S384x64_0_0 _ _
  have hv11 : sound_first.sl.v11 c arg1 arg11 f1 = scaleS (View.read (Elt F) arg1.view f1) := by
    unfold sound_first.sl.v11; rw [h111]
    exact View.readCov_full arg11.view inb_S384x1_S384x1_0_0 inb_S384x1_S384x1_0_0 _ _
  rw [hv3, hv7, hv11, hr4, h81, h101, h111, h2, h3, h5]
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_full _ _ inb_S384x512_S384x512_0_0 _ _
  isplitl [H8]
  · iexists _; isplitr
    swap; · iexact H8
    ipureintro
    exact View.read_writes_full _ _ inb_S384x3072_S384x3072_0_0 _ _
  isplitl [H9]
  · iexists _; isplitr
    swap; · iexact H9
    ipureintro
    exact View.read_writes_full _ _ inb_S384x1_S384x1_0_0 _ _
  isplitl [H10]
  · iexists _; isplitr
    swap; · iexact H10
    ipureintro
    exact View.read_writes_full _ _ inb_S384x64_S384x64_0_0 _ _
  iexists _; isplitr
  swap; · iexact H11
  ipureintro
  exact View.read_writes_full _ _ inb_S384x1_S384x1_0_0 _ _

set_option maxHeartbeats 2000000 in
/-- The body at every later grid point. -/
theorem sound_later (c : Dev nD) (E : Set ℕ) (i : grid0.Coords) (hc : ¬ k0_cond1 i = 1#1)
    (arg1 : Memref sig .tc .vmem S384x3072 .bf16) (harg1 : arg1.IsWhole) (arg2 : Memref sig .tc .vmem S3072x512 .fp8e4m3) (harg2 : arg2.IsWhole) (arg3 : Memref sig .tc .vmem S1x512 .f32) (harg3 : arg3.IsWhole) (arg4 : Memref sig .tc .vmem S64x3072 .bf16) (harg4 : arg4.IsWhole) (arg5 : Memref sig .tc .vmem S64x512 .bf16) (harg5 : arg5.IsWhole) (arg6 : Memref sig .tc .vmem S1x384 .i32) (harg6 : arg6.IsWhole) (arg7 : Memref sig .tc .vmem S384x512 .bf16) (harg7 : arg7.IsWhole) (arg8 : Memref sig .tc .vmem S384x3072 .fp8e4m3) (harg8 : arg8.IsWhole) (arg9 : Memref sig .tc .vmem S384x1 .f32) (harg9 : arg9.IsWhole) (arg10 : Memref sig .tc .vmem S384x64 .bf16) (harg10 : arg10.IsWhole) (arg11 : Memref sig .tc .vmem S384x1 .f32) (harg11 : arg11.IsWhole)
    (x : Vec F S384x3072 .bf16) (w : Vec F S3072x512 .fp8e4m3) (ws : Vec F S1x512 .f32) (la : Vec F S64x3072 .bf16) (lb : Vec F S64x512 .bf16) (tok : Vec F S1x384 .i32)
    (co : Vec F S384x3072 .fp8e4m3) (sc : Vec F S384x1 .f32) (pr : Vec F S384x64 .bf16) (ss : Vec F S384x1 .f32) (K : PUnit → sProp 𝕄) :
    iprop(owns (c : Thread nD τ) arg1 fullShare x ∗ owns (c : Thread nD τ) arg2 fullShare w ∗ owns (c : Thread nD τ) arg3 fullShare ws ∗ owns (c : Thread nD τ) arg4 fullShare la ∗ owns (c : Thread nD τ) arg5 fullShare lb ∗ owns (c : Thread nD τ) arg6 fullShare tok
        ∗ (∃ d, owns (c : Thread nD τ) arg7 fullShare d) ∗ owns (c : Thread nD τ) arg8 fullShare co ∗ owns (c : Thread nD τ) arg9 fullShare sc ∗ owns (c : Thread nD τ) arg10 fullShare pr ∗ owns (c : Thread nD τ) arg11 fullShare ss
        ∗ (iprop(owns (c : Thread nD τ) arg1 fullShare x ∗ owns (c : Thread nD τ) arg2 fullShare w ∗ owns (c : Thread nD τ) arg3 fullShare ws ∗ owns (c : Thread nD τ) arg4 fullShare la ∗ owns (c : Thread nD τ) arg5 fullShare lb ∗ owns (c : Thread nD τ) arg6 fullShare tok
            ∗ owns (c : Thread nD τ) arg7 fullShare (k0_pay2 co w pr lb ss ws) ∗ owns (c : Thread nD τ) arg8 fullShare co ∗ owns (c : Thread nD τ) arg9 fullShare sc ∗ owns (c : Thread nD τ) arg10 fullShare pr ∗ owns (c : Thread nD τ) arg11 fullShare ss) -∗ K ⟨⟩))
      ⊢ wp frame (wpE (defs₀ (F := F)) Variants.none c none) E (cc0_fp8_lora_linear i arg1 harg1 arg2 harg2 arg3 harg3 arg4 harg4 arg5 harg5 arg6 harg6 arg7 harg7 arg8 harg8 arg9 harg9 arg10 harg10 arg11 harg11) K := by
  simp only [cc0_fp8_lora_linear_eq_skeleton]; unfold cc0_fp8_lora_linear_skel
  simp only [k0_part1_eq_skeleton, k0_part2_eq_skeleton, k0_part3_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, ⟨%f11, %hf11, H11⟩, Hk⟩
  subst hf1 hf2 hf3 hf4 hf5 hf6 hf8 hf9 hf10 hf11
  sl_exec (disch := sl_exact hc)
  sl_step
  have h2 : View.readAt (Elt F) arg2.view (Rect.unit ![0, 0] ![3072, 512] inb_S3072x512_S3072x512_0_0).toLoadRect f2 = View.read (Elt F) arg2.view f2 := View.readAt_full _ _ inb_S3072x512_S3072x512_0_0
  have h3 : View.readAt (Elt F) arg3.view (Rect.unit ![0, 0] ![1, 512] inb_S1x512_S1x512_0_0).toLoadRect f3 = View.read (Elt F) arg3.view f3 := View.readAt_full _ _ inb_S1x512_S1x512_0_0
  have h5 : View.readAt (Elt F) arg5.view (Rect.unit ![0, 0] ![64, 512] inb_S64x512_S64x512_0_0).toLoadRect f5 = View.read (Elt F) arg5.view f5 := View.readAt_full _ _ inb_S64x512_S64x512_0_0
  have h8 : View.readAt (Elt F) arg8.view (Rect.unit ![0, 0] ![384, 3072] inb_S384x3072_S384x3072_0_0).toLoadRect f8 = View.read (Elt F) arg8.view f8 := View.readAt_full _ _ inb_S384x3072_S384x3072_0_0
  have h10 : View.readAt (Elt F) arg10.view (Rect.unit ![0, 0] ![384, 64] inb_S384x64_S384x64_0_0).toLoadRect f10 = View.read (Elt F) arg10.view f10 := View.readAt_full _ _ inb_S384x64_S384x64_0_0
  have h11 : View.readAt (Elt F) arg11.view (Rect.unit ![0, 0] ![384, 1] inb_S384x1_S384x1_0_0).toLoadRect f11 = View.read (Elt F) arg11.view f11 := View.readAt_full _ _ inb_S384x1_S384x1_0_0
  rw [h2, h3, h5, h8, h10, h11]
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_full _ _ inb_S384x512_S384x512_0_0 _ _
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists f11; isplitr; · ipureintro; rfl
  iexact H11

end Cert.Kernel.Hand

end
-- ==== Proof.KernelFrame.lean ====
/-
  The frame of the printed kernel, over any float values (hand-written, untrusted): from any memory whose semaphore
  counters are zero every execution of `@main` terminates, the argument arrays end unchanged and every counter ends at
  zero. Of the results nothing is said here: the last block of weights reaches past the array's edge, and over machine
  words nothing is known of a matrix product one of whose operands holds unknown words.
-/
module

public import proofs.«01_k».proof.Proof.KernelBody

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows of which the frame says nothing: the three results'. -/
def fgt : Fin cfg0.W → Bool := fun w => match w with
  | ⟨0, _⟩ => false | ⟨1, _⟩ => false | ⟨2, _⟩ => false | ⟨3, _⟩ => false | ⟨4, _⟩ => false | ⟨5, _⟩ => false
  | ⟨6, _⟩ => true | ⟨7, _⟩ => true | ⟨8, _⟩ => true

/-- The proof data: the inputs' staging buffers hold their blocks, past an array's edge words that nothing reads; the
    scratch buffers and the results' staging buffers hold anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => win0_1.fill (grid0.coords t) (fun _ => Scalar.ofBits .fp8e4m3 0#8) (iblk m c 1 t)
    | ⟨2, _⟩ => win0_2.fill (grid0.coords t) (fun _ => Scalar.ofBits .f32 0#32) (iblk m c 2 t)
    | ⟨3, _⟩ => iblk m c 3 t
    | ⟨4, _⟩ => win0_4.fill (grid0.coords t) (fun _ => Scalar.ofBits .bf16 0#16) (iblk m c 4 t)
    | ⟨5, _⟩ => iblk m c 5 t
    | ⟨6, _⟩ => fun _ => Scalar.ofBits .bf16 0#16
    | ⟨7, _⟩ => fun _ => Scalar.ofBits .fp8e4m3 0#8
    | ⟨8, _⟩ => fun _ => Scalar.ofBits .f32 0#32
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_3 (c : Dev nD) (t : Fin cfg0.N) : (dats m 0 c).after 3 t = iblk m c 3 t := by dsimp only [dats]
theorem after0_5 (c : Dev nD) (t : Fin cfg0.N) : (dats m 0 c).after 5 t = iblk m c 5 t := by dsimp only [dats]

theorem after0_1 (c : Dev nD) (t : Fin cfg0.N) : (dats m 0 c).after 1 t = win0_1.fill (grid0.coords t) (fun _ => Scalar.ofBits .fp8e4m3 0#8) (iblk m c 1 t) := by dsimp only [dats]
theorem after0_2 (c : Dev nD) (t : Fin cfg0.N) : (dats m 0 c).after 2 t = win0_2.fill (grid0.coords t) (fun _ => Scalar.ofBits .f32 0#32) (iblk m c 2 t) := by dsimp only [dats]
theorem after0_4 (c : Dev nD) (t : Fin cfg0.N) : (dats m 0 c).after 4 t = win0_4.fill (grid0.coords t) (fun _ => Scalar.ofBits .bf16 0#16) (iblk m c 4 t) := by dsimp only [dats]
/-- Each input's staging buffer holds its block when the body runs; past an array's edge it holds anything. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = win0_1.fill (grid0.coords t) d (iblk m c 1 t) := by
  unfold Dat.before; rw [if_pos (fetch0_1 t)]; rfl
theorem before0_2 (c : Dev nD) (t : Fin cfg0.N) (d) : (dats m 0 c).before 2 t d = win0_2.fill (grid0.coords t) d (iblk m c 2 t) := by
  unfold Dat.before; rw [if_pos (fetch0_2 t)]; rfl
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = win0_4.fill (grid0.coords t) d (iblk m c 4 t) := by
  unfold Dat.before; rw [if_pos (fetch0_4 t)]; rfl
theorem before0_5 (c : Dev nD) (t : Fin cfg0.N) (d) : (dats m 0 c).before 5 t d = iblk m c 5 t :=
  before0_5_of m (dats m 0 c) (A_eq m c 5) (after0_5 m c) t d

/-- What the body leaves in the clipped inputs' staging buffers, on the part inside the array: their blocks. -/
theorem cut0_1 (c : Dev nD) (t : Fin cfg0.N) : win0_1.cut (grid0.coords t) ((dats m 0 c).after 1 t) = iblk m c 1 t := by
  rw [after0_1]; exact win0_1.cut_fill _ _ _
theorem cut0_2 (c : Dev nD) (t : Fin cfg0.N) : win0_2.cut (grid0.coords t) ((dats m 0 c).after 2 t) = iblk m c 2 t := by
  rw [after0_2]; exact win0_2.cut_fill _ _ _
theorem cut0_4 (c : Dev nD) (t : Fin cfg0.N) : win0_4.cut (grid0.coords t) ((dats m 0 c).after 4 t) = iblk m c 4 t := by
  rw [after0_4]; exact win0_4.cut_fill _ _ _

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare d)
    ∗ (∃ d, owns (c : Thread nD τ) (st0_7 t) fullShare d)
    ∗ (∃ d, owns (c : Thread nD τ) (st0_8 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare (win0_1.fill (grid0.coords t) d (win0_1.cut (grid0.coords t) ((dats m 0 c).after 1 t))))
    ∗ (∃ d, owns (c : Thread nD τ) (st0_2 t) fullShare (win0_2.fill (grid0.coords t) d (win0_2.cut (grid0.coords t) ((dats m 0 c).after 2 t))))
    ∗ owns (c : Thread nD τ) (st0_3 t) fullShare ((dats m 0 c).after 3 t)
    ∗ (∃ d, owns (c : Thread nD τ) (st0_4 t) fullShare (win0_4.fill (grid0.coords t) d (win0_4.cut (grid0.coords t) ((dats m 0 c).after 4 t))))
    ∗ owns (c : Thread nD τ) (st0_5 t) fullShare ((dats m 0 c).after 5 t)
    ∗ (∃ d, owns (c : Thread nD τ) (st0_6 t) fullShare d)
    ∗ (∃ d, owns (c : Thread nD τ) (st0_7 t) fullShare d)
    ∗ (∃ d, owns (c : Thread nD τ) (st0_8 t) fullShare d))

/-- The body at any point, by its two cases. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_3, after0_5, cut0_1, cut0_2, cut0_4]
  unfold Pipeline.ΦA
  rw [scopedRest0_eq]
  iintro ⟨⟨⟨⟨%s0, S0⟩, ⟨%s1, S1⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  by_cases hc : k0_cond1 (grid0.coords t) = 1#1
  · iapply (sound_first c Set.univ _ hc _ _ _ _ _ _ _ _ _ _ _ _ _ _ _ _ _ _ _ _ _ _ (iblk m c 0 t) (win0_1.fill (grid0.coords t) d1 (iblk m c 1 t))
      (win0_2.fill (grid0.coords t) d2 (iblk m c 2 t)) (iblk m c 3 t) (win0_4.fill (grid0.coords t) d4 (iblk m c 4 t)) (iblk m c 5 t) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [S0]; · iexists s0; rw [owns_whole]; first | iexact S0 | exact BI.Entails.refl _ | exact .rfl
    isplitl [S1]; · iexists s1; rw [owns_whole]; first | iexact S1 | exact BI.Entails.refl _ | exact .rfl
    iintro ⟨H0, H1, H2, H3, H4, H5, H6, H7, H8, S0, S1⟩
    isplitl [Hr S0 S1]
    · isplitl [S0 S1]
      · isplitl [S0]
        · iexists (proj (iblk m c 0 t) (iblk m c 3 t) (iblk m c 5 t)); rw [owns_whole]; first | iexact S0 | exact BI.Entails.refl _ | exact .rfl
        · iexists (scaleS (iblk m c 0 t)); rw [owns_whole]; first | iexact S1 | exact BI.Entails.refl _ | exact .rfl
      iexact Hr
    isplitl [Ho]; · iexact Ho
    isplitl [H0]; · iexact H0
    isplitl [H1]; · iexists d1; iexact H1
    isplitl [H2]; · iexists d2; iexact H2
    isplitl [H3]; · iexact H3
    isplitl [H4]; · iexists d4; iexact H4
    isplitl [H5]; · iexact H5
    isplitl [H6]; · iexists _; iexact H6
    isplitl [H7]; · iexists _; iexact H7
    iexists _; iexact H8
  · iapply (sound_later c Set.univ _ hc _ _ _ _ _ _ _ _ _ _ _ _ _ _ _ _ _ _ _ _ _ _ (iblk m c 0 t) (win0_1.fill (grid0.coords t) d1 (iblk m c 1 t))
      (win0_2.fill (grid0.coords t) d2 (iblk m c 2 t)) (iblk m c 3 t) (win0_4.fill (grid0.coords t) d4 (iblk m c 4 t)) (iblk m c 5 t) d7 d8 s0 s1 _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [S0]; · rw [owns_whole]; try iexact S0
    isplitl [S1]; · rw [owns_whole]; try iexact S1
    iintro ⟨H0, H1, H2, H3, H4, H5, H6, H7, H8, S0, S1⟩
    isplitl [Hr S0 S1]
    · isplitl [S0 S1]
      · isplitl [S0]
        · iexists s0; rw [owns_whole]; first | iexact S0 | exact BI.Entails.refl _ | exact .rfl
        · iexists s1; rw [owns_whole]; first | iexact S1 | exact BI.Entails.refl _ | exact .rfl
      iexact Hr
    isplitl [Ho]; · iexact Ho
    isplitl [H0]; · iexact H0
    isplitl [H1]; · iexists d1; iexact H1
    isplitl [H2]; · iexists d2; iexact H2
    isplitl [H3]; · iexact H3
    isplitl [H4]; · iexists d4; iexact H4
    isplitl [H5]; · iexact H5
    isplitl [H6]; · iexists _; iexact H6
    isplitl [H7]; · iexists _; iexact H7
    iexists _; iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligationLoose (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
set_option maxHeartbeats 800000 in
/-- The run: it terminates, the arrays no window writes end as the region found them, and every counter ends at zero. -/
theorem run_main : θ_run defs (onTc (τ := τ) (main (F := F))) (s₀ m ρ)
    (fun r => RDat.FramePost (cfgs 0) (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => body_obligation m c) (hshare := fun c => (dats m 0 c).share_full fun _ => rfl)
    (howed := fun _ _ => rfl) (V := V m) (hmain := hmain m Variants.none) (hA := A_eq m) (hΦ := fun _ _ => rfl)

/-- THE FRAME: every execution terminates, the argument arrays end unchanged, every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r ⟨h, hz⟩ => ⟨fun c =>
    ⟨((h c).2 main_arg0 (Pipeline.mem_restRefs_of main_arg0 (by decide) (by decide))).trans (V_main_arg0 m c),
     (h.arr_in c 1 rfl).trans ((A_eq m c 1).trans (V_main_arg1 m c)),
     ((h c).2 main_arg2 (Pipeline.mem_restRefs_of main_arg2 (by decide) (by decide))).trans (V_main_arg2 m c),
     ((h c).2 main_arg3 (Pipeline.mem_restRefs_of main_arg3 (by decide) (by decide))).trans (V_main_arg3 m c),
     ((h c).2 main_arg4 (Pipeline.mem_restRefs_of main_arg4 (by decide) (by decide))).trans (V_main_arg4 m c),
     (h.arr_in c 5 rfl).trans ((A_eq m c 5).trans (V_main_arg5 m c))⟩, hz⟩) (run_main m ρ)

end Cert.Kernel.Hand

end
-- ==== Proof.IdealBody.lean ====
/-
  The kernel's body, at every grid point, over any float values (hand-written, untrusted).

  The body has two cases. At the first grid point it computes, from the activations, the adapter factors and the
  tokens' adapter numbers, the codes, the scales and the masked projections, and keeps them in the two result blocks
  that stay in place and in the two scratch buffers. At every point it multiplies the codes with its block of weights,
  the masked projections with its block of the second adapter factors, and stores its block of `y`.
-/
module

public import proofs.«01_k».proof.Proof.Gen.KernelIdeal.Frame
public import proofs.«01_k».proof.Proof.Gen.KernelIdeal.Skeleton
public import Idealize.ShloMosaic.Lib.Pipeline.Value
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## What the body computes -/

/-- The exponents of the rows' scales, from the activations. -/
def expo (x : Vec F S384x3072 .bf16) : IVec S384x1 32 := k0_pay8 (k0_pay4 x) (k0_pay5 x) (k0_pay6 x) k0_pay7

/-- The codes, from the activations. -/
def codes (x : Vec F S384x3072 .bf16) : FVec F S384x3072 .fp8e4m3 := k0_pay10 (k0_pay3 x) (expo x)

/-- The rows' scales, from the activations, as the result block holds them, -/
def scale (x : Vec F S384x3072 .bf16) : FVec F S384x1 .f32 := k0_pay9 (F := F) (expo x) 127#32

/-- and as the scratch buffer holds them. -/
def scaleS (x : Vec F S384x3072 .bf16) : FVec F S384x1 .f32 := k0_pay11 (F := F) (expo x) 127#32

/-- The masked projections, from the activations, the first adapter factors and the tokens' adapter numbers. -/
def proj (x : Vec F S384x3072 .bf16) (la : Vec F S64x3072 .bf16) (tok : Vec F S1x384 .i32) : FVec F S384x64 .bf16 :=
  k0_pay1 (k0_pay12 (k0_pay3 x) la) (iota .tc S64x384 32 [0] iota_S64x384_d0_w32) 16#32 k0_pay13 k0_pay14 tok

/-- The origin, written as a literal. -/
theorem zero2 : (![0, 0] : Fin 2 → ℕ) = fun _ => 0 := funext fun a => by fin_cases a <;> rfl

/-! ## The body's two cases -/

set_option maxHeartbeats 2000000 in
/-- The body at the first grid point. -/
theorem sound_first (c : Dev nD) (E : Set ℕ) (i : grid0.Coords) (hc : k0_cond1 i = 1#1)
    (arg1 : Memref sig .tc .vmem S384x3072 .bf16) (harg1 : arg1.IsWhole) (arg2 : Memref sig .tc .vmem S3072x512 .fp8e4m3) (harg2 : arg2.IsWhole) (arg3 : Memref sig .tc .vmem S1x512 .f32) (harg3 : arg3.IsWhole) (arg4 : Memref sig .tc .vmem S64x3072 .bf16) (harg4 : arg4.IsWhole) (arg5 : Memref sig .tc .vmem S64x512 .bf16) (harg5 : arg5.IsWhole) (arg6 : Memref sig .tc .vmem S1x384 .i32) (harg6 : arg6.IsWhole) (arg7 : Memref sig .tc .vmem S384x512 .bf16) (harg7 : arg7.IsWhole) (arg8 : Memref sig .tc .vmem S384x3072 .fp8e4m3) (harg8 : arg8.IsWhole) (arg9 : Memref sig .tc .vmem S384x1 .f32) (harg9 : arg9.IsWhole) (arg10 : Memref sig .tc .vmem S384x64 .bf16) (harg10 : arg10.IsWhole) (arg11 : Memref sig .tc .vmem S384x1 .f32) (harg11 : arg11.IsWhole)
    (x : Vec F S384x3072 .bf16) (w : Vec F S3072x512 .fp8e4m3) (ws : Vec F S1x512 .f32) (la : Vec F S64x3072 .bf16) (lb : Vec F S64x512 .bf16) (tok : Vec F S1x384 .i32) (K : PUnit → sProp 𝕄) :
    iprop(owns (c : Thread nD τ) arg1 fullShare x ∗ owns (c : Thread nD τ) arg2 fullShare w ∗ owns (c : Thread nD τ) arg3 fullShare ws ∗ owns (c : Thread nD τ) arg4 fullShare la ∗ owns (c : Thread nD τ) arg5 fullShare lb ∗ owns (c : Thread nD τ) arg6 fullShare tok
        ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x ∗ owns (c : Thread nD τ) arg2 fullShare w ∗ owns (c : Thread nD τ) arg3 fullShare ws ∗ owns (c : Thread nD τ) arg4 fullShare la ∗ owns (c : Thread nD τ) arg5 fullShare lb ∗ owns (c : Thread nD τ) arg6 fullShare tok
            ∗ owns (c : Thread nD τ) arg7 fullShare (k0_pay2 (codes x) w (proj x la tok) lb (scaleS x) ws) ∗ owns (c : Thread nD τ) arg8 fullShare (codes x) ∗ owns (c : Thread nD τ) arg9 fullShare (scale x) ∗ owns (c : Thread nD τ) arg10 fullShare (proj x la tok) ∗ owns (c : Thread nD τ) arg11 fullShare (scaleS x)) -∗ K ⟨⟩))
      ⊢ wp frame (wpE (defs₀ (F := F)) Variants.none c none) E (cc0_fp8_lora_linear i arg1 harg1 arg2 harg2 arg3 harg3 arg4 harg4 arg5 harg5 arg6 harg6 arg7 harg7 arg8 harg8 arg9 harg9 arg10 harg10 arg11 harg11) K := by
  simp only [cc0_fp8_lora_linear_eq_skeleton]; unfold cc0_fp8_lora_linear_skel
  simp only [k0_part1_eq_skeleton, k0_part2_eq_skeleton, k0_part3_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, Hk⟩
  subst hf1 hf2 hf3 hf4 hf5 hf6
  sl_exec (disch := sl_exact hc)
  sl_step
  have h1 : View.readAt (Elt F) arg1.view (Rect.unit ![0, 0] S384x3072.size inb_S384x3072_S384x3072_0_0).toLoadRect f1 = View.read (Elt F) arg1.view f1 := View.readAt_full _ _ inb_S384x3072_S384x3072_0_0
  have h2 : View.readAt (Elt F) arg2.view (Rect.unit ![0, 0] ![3072, 512] inb_S3072x512_S3072x512_0_0).toLoadRect f2 = View.read (Elt F) arg2.view f2 := View.readAt_full _ _ inb_S3072x512_S3072x512_0_0
  have h3 : View.readAt (Elt F) arg3.view (Rect.unit ![0, 0] ![1, 512] inb_S1x512_S1x512_0_0).toLoadRect f3 = View.read (Elt F) arg3.view f3 := View.readAt_full _ _ inb_S1x512_S1x512_0_0
  have h4 : View.readAt (Elt F) arg4.view (Rect.unit ![0, 0] S64x3072.size inb_S64x3072_S64x3072_0_0).toLoadRect f4 = View.read (Elt F) arg4.view f4 := View.readAt_full _ _ inb_S64x3072_S64x3072_0_0
  have h5 : View.readAt (Elt F) arg5.view (Rect.unit ![0, 0] ![64, 512] inb_S64x512_S64x512_0_0).toLoadRect f5 = View.read (Elt F) arg5.view f5 := View.readAt_full _ _ inb_S64x512_S64x512_0_0
  have h6 : View.readAt (Elt F) arg6.view (Rect.unit ![0, 0] ![1, 384] inb_S1x384_S1x384_0_0).toLoadRect f6 = View.read (Elt F) arg6.view f6 := View.readAt_full _ _ inb_S1x384_S1x384_0_0
  have hr : sound_first.sl.r c arg1 f1 = k0_pay3 (View.read (Elt F) arg1.view f1) := by
    unfold sound_first.sl.r; rw [h1]
  have hr4 : sound_first.sl.r_4 c arg1 f1 = expo (View.read (Elt F) arg1.view f1) := by
    unfold sound_first.sl.r_4 sound_first.sl.r_1 sound_first.sl.r_2 sound_first.sl.r_3; rw [h1]; rfl
  have h81 : sound_first.sl.H8_1 c arg1 f1 = [⟨Rect.unit ![0, 0] S384x3072.size inb_S384x3072_S384x3072_0_0, codes (View.read (Elt F) arg1.view f1)⟩] := by
    unfold sound_first.sl.H8_1; rw [hr, hr4]; rfl
  have h101 : sound_first.sl.H10_1 c arg1 arg4 arg6 f1 f4 f6 = [⟨Rect.unit ![0, 0] S384x64.size inb_S384x64_S384x64_0_0, proj (View.read (Elt F) arg1.view f1) (View.read (Elt F) arg4.view f4) (View.read (Elt F) arg6.view f6)⟩] := by
    unfold sound_first.sl.H10_1 sound_first.sl.r_5 sound_first.sl.v139; rw [hr, h4, h6]; rfl
  have h111 : sound_first.sl.H11_1 c arg1 f1 = [⟨Rect.unit ![0, 0] S384x1.size inb_S384x1_S384x1_0_0, scaleS (View.read (Elt F) arg1.view f1)⟩] := by
    unfold sound_first.sl.H11_1; rw [hr4]; rfl
  have hv3 : sound_first.sl.v3 c arg1 arg8 f1 = codes (View.read (Elt F) arg1.view f1) := by
    unfold sound_first.sl.v3; rw [h81]
    exact View.readCov_full arg8.view inb_S384x3072_S384x3072_0_0 inb_S384x3072_S384x3072_0_0 _ _
  have hv7 : sound_first.sl.v7 c arg1 arg4 arg6 arg10 f1 f4 f6 = proj (View.read (Elt F) arg1.view f1) (View.read (Elt F) arg4.view f4) (View.read (Elt F) arg6.view f6) := by
    unfold sound_first.sl.v7; rw [h101]
    exact View.readCov_full arg10.view inb_S384x64_S384x64_0_0 inb_S384x64_S384x64_0_0 _ _
  have hv11 : sound_first.sl.v11 c arg1 arg11 f1 = scaleS (View.read (Elt F) arg1.view f1) := by
    unfold sound_first.sl.v11; rw [h111]
    exact View.readCov_full arg11.view inb_S384x1_S384x1_0_0 inb_S384x1_S384x1_0_0 _ _
  rw [hv3, hv7, hv11, hr4, h81, h101, h111, h2, h3, h5]
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_full _ _ inb_S384x512_S384x512_0_0 _ _
  isplitl [H8]
  · iexists _; isplitr
    swap; · iexact H8
    ipureintro
    exact View.read_writes_full _ _ inb_S384x3072_S384x3072_0_0 _ _
  isplitl [H9]
  · iexists _; isplitr
    swap; · iexact H9
    ipureintro
    exact View.read_writes_full _ _ inb_S384x1_S384x1_0_0 _ _
  isplitl [H10]
  · iexists _; isplitr
    swap; · iexact H10
    ipureintro
    exact View.read_writes_full _ _ inb_S384x64_S384x64_0_0 _ _
  iexists _; isplitr
  swap; · iexact H11
  ipureintro
  exact View.read_writes_full _ _ inb_S384x1_S384x1_0_0 _ _

set_option maxHeartbeats 2000000 in
/-- The body at every later grid point. -/
theorem sound_later (c : Dev nD) (E : Set ℕ) (i : grid0.Coords) (hc : ¬ k0_cond1 i = 1#1)
    (arg1 : Memref sig .tc .vmem S384x3072 .bf16) (harg1 : arg1.IsWhole) (arg2 : Memref sig .tc .vmem S3072x512 .fp8e4m3) (harg2 : arg2.IsWhole) (arg3 : Memref sig .tc .vmem S1x512 .f32) (harg3 : arg3.IsWhole) (arg4 : Memref sig .tc .vmem S64x3072 .bf16) (harg4 : arg4.IsWhole) (arg5 : Memref sig .tc .vmem S64x512 .bf16) (harg5 : arg5.IsWhole) (arg6 : Memref sig .tc .vmem S1x384 .i32) (harg6 : arg6.IsWhole) (arg7 : Memref sig .tc .vmem S384x512 .bf16) (harg7 : arg7.IsWhole) (arg8 : Memref sig .tc .vmem S384x3072 .fp8e4m3) (harg8 : arg8.IsWhole) (arg9 : Memref sig .tc .vmem S384x1 .f32) (harg9 : arg9.IsWhole) (arg10 : Memref sig .tc .vmem S384x64 .bf16) (harg10 : arg10.IsWhole) (arg11 : Memref sig .tc .vmem S384x1 .f32) (harg11 : arg11.IsWhole)
    (x : Vec F S384x3072 .bf16) (w : Vec F S3072x512 .fp8e4m3) (ws : Vec F S1x512 .f32) (la : Vec F S64x3072 .bf16) (lb : Vec F S64x512 .bf16) (tok : Vec F S1x384 .i32)
    (co : Vec F S384x3072 .fp8e4m3) (sc : Vec F S384x1 .f32) (pr : Vec F S384x64 .bf16) (ss : Vec F S384x1 .f32) (K : PUnit → sProp 𝕄) :
    iprop(owns (c : Thread nD τ) arg1 fullShare x ∗ owns (c : Thread nD τ) arg2 fullShare w ∗ owns (c : Thread nD τ) arg3 fullShare ws ∗ owns (c : Thread nD τ) arg4 fullShare la ∗ owns (c : Thread nD τ) arg5 fullShare lb ∗ owns (c : Thread nD τ) arg6 fullShare tok
        ∗ (∃ d, owns (c : Thread nD τ) arg7 fullShare d) ∗ owns (c : Thread nD τ) arg8 fullShare co ∗ owns (c : Thread nD τ) arg9 fullShare sc ∗ owns (c : Thread nD τ) arg10 fullShare pr ∗ owns (c : Thread nD τ) arg11 fullShare ss
        ∗ (iprop(owns (c : Thread nD τ) arg1 fullShare x ∗ owns (c : Thread nD τ) arg2 fullShare w ∗ owns (c : Thread nD τ) arg3 fullShare ws ∗ owns (c : Thread nD τ) arg4 fullShare la ∗ owns (c : Thread nD τ) arg5 fullShare lb ∗ owns (c : Thread nD τ) arg6 fullShare tok
            ∗ owns (c : Thread nD τ) arg7 fullShare (k0_pay2 co w pr lb ss ws) ∗ owns (c : Thread nD τ) arg8 fullShare co ∗ owns (c : Thread nD τ) arg9 fullShare sc ∗ owns (c : Thread nD τ) arg10 fullShare pr ∗ owns (c : Thread nD τ) arg11 fullShare ss) -∗ K ⟨⟩))
      ⊢ wp frame (wpE (defs₀ (F := F)) Variants.none c none) E (cc0_fp8_lora_linear i arg1 harg1 arg2 harg2 arg3 harg3 arg4 harg4 arg5 harg5 arg6 harg6 arg7 harg7 arg8 harg8 arg9 harg9 arg10 harg10 arg11 harg11) K := by
  simp only [cc0_fp8_lora_linear_eq_skeleton]; unfold cc0_fp8_lora_linear_skel
  simp only [k0_part1_eq_skeleton, k0_part2_eq_skeleton, k0_part3_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, ⟨%f11, %hf11, H11⟩, Hk⟩
  subst hf1 hf2 hf3 hf4 hf5 hf6 hf8 hf9 hf10 hf11
  sl_exec (disch := sl_exact hc)
  sl_step
  have h2 : View.readAt (Elt F) arg2.view (Rect.unit ![0, 0] ![3072, 512] inb_S3072x512_S3072x512_0_0).toLoadRect f2 = View.read (Elt F) arg2.view f2 := View.readAt_full _ _ inb_S3072x512_S3072x512_0_0
  have h3 : View.readAt (Elt F) arg3.view (Rect.unit ![0, 0] ![1, 512] inb_S1x512_S1x512_0_0).toLoadRect f3 = View.read (Elt F) arg3.view f3 := View.readAt_full _ _ inb_S1x512_S1x512_0_0
  have h5 : View.readAt (Elt F) arg5.view (Rect.unit ![0, 0] ![64, 512] inb_S64x512_S64x512_0_0).toLoadRect f5 = View.read (Elt F) arg5.view f5 := View.readAt_full _ _ inb_S64x512_S64x512_0_0
  have h8 : View.readAt (Elt F) arg8.view (Rect.unit ![0, 0] ![384, 3072] inb_S384x3072_S384x3072_0_0).toLoadRect f8 = View.read (Elt F) arg8.view f8 := View.readAt_full _ _ inb_S384x3072_S384x3072_0_0
  have h10 : View.readAt (Elt F) arg10.view (Rect.unit ![0, 0] ![384, 64] inb_S384x64_S384x64_0_0).toLoadRect f10 = View.read (Elt F) arg10.view f10 := View.readAt_full _ _ inb_S384x64_S384x64_0_0
  have h11 : View.readAt (Elt F) arg11.view (Rect.unit ![0, 0] ![384, 1] inb_S384x1_S384x1_0_0).toLoadRect f11 = View.read (Elt F) arg11.view f11 := View.readAt_full _ _ inb_S384x1_S384x1_0_0
  rw [h2, h3, h5, h8, h10, h11]
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_full _ _ inb_S384x512_S384x512_0_0 _ _
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists f11; isplitr; · ipureintro; rfl
  iexact H11

end Cert.KernelIdeal.Hand

end
-- ==== Proof.IdealPoint.lean ====
/-
  The blocks of the idealized kernel, read at an index (hand-written, untrusted): where each window's block lies in its
  array and how much of it is inside, and what the body stores in its block of `y`, element by element.
-/
module

public import proofs.«01_k».proof.Proof.IdealBody
public import Idealize.ShloMosaic.Lib.Pipeline.ValueKit.Point
public import Idealize.ShloMosaic.Lib.MatmulPlain

@[expose] public section

set_option maxRecDepth 16384

noncomputable section

namespace Cert.KernelIdeal.Hand

open Cert.KernelIdeal Cert.KernelIdeal.Gen
open Idealize.ShloMosaic Idealize.ShloMosaic.TcCoe

variable (m : (ℓ : Loc nD τ sig) → Buf (Elt Ideal) ℓ)

/-- How much of each clipped block is inside its array: of the last block of columns, half. -/
theorem xsizes : ∀ t : Fin cfg0.N, win0_6.xsize (grid0.coords t) 0 = 384 ∧ win0_6.xsize (grid0.coords t) 1 = min 512 (20224 - 512 * t.val)
    ∧ win0_1.xsize (grid0.coords t) 0 = 3072 ∧ win0_1.xsize (grid0.coords t) 1 = min 512 (20224 - 512 * t.val)
    ∧ win0_2.xsize (grid0.coords t) 0 = 1 ∧ win0_2.xsize (grid0.coords t) 1 = min 512 (20224 - 512 * t.val)
    ∧ win0_4.xsize (grid0.coords t) 0 = 64 ∧ win0_4.xsize (grid0.coords t) 1 = min 512 (20224 - 512 * t.val) := by decide +kernel

/-- Where each block lies: block `t` of the columns at point `t`. -/
theorem indices : ∀ t : Fin cfg0.N, win0_6.index t 0 = 0 ∧ win0_6.index t 1 = t.val
    ∧ win0_1.index t 0 = 0 ∧ win0_1.index t 1 = t.val ∧ win0_2.index t 0 = 0 ∧ win0_2.index t 1 = t.val
    ∧ win0_4.index t 0 = 0 ∧ win0_4.index t 1 = t.val
    ∧ win0_0.index t 0 = 0 ∧ win0_0.index t 1 = 0 ∧ win0_3.index t 0 = 0 ∧ win0_3.index t 1 = 0
    ∧ win0_5.index t 0 = 0 ∧ win0_5.index t 1 = 0 ∧ win0_7.index t 0 = 0 ∧ win0_7.index t 1 = 0
    ∧ win0_8.index t 0 = 0 ∧ win0_8.index t 1 = 0 := by decide +kernel

/-- The body's first case is the first grid point's. -/
theorem cond_iff : ∀ t : Fin cfg0.N, k0_cond1 (grid0.coords t) = 1#1 ↔ t.val = 0 := by decide +kernel

/-- What the body stores in its block of `y`, at an element: the codes' row times the weights' column, scaled, and twice
    the masked projections' row times the second factors' column. -/
theorem pay2_apply (co : Vec Ideal S384x3072 .fp8e4m3) (w : Vec Ideal S3072x512 .fp8e4m3) (pr : Vec Ideal S384x64 .bf16)
    (lb : Vec Ideal S64x512 .bf16) (ss : Vec Ideal S384x1 .f32) (ws : Vec Ideal S1x512 .f32) (j : S384x512.Idx) :
    k0_pay2 co w pr lb ss ws j = (∑ k : Fin 3072, co (ix2 (j 0) k) * w (ix2 k (j 1))) * ss (ix2 (j 0) 0) * ws (ix2 0 (j 1))
      + Ideal.ofBits .f32 0x40000000#32 * ∑ k : Fin 64, pr (ix2 (j 0) k) * lb (ix2 k (j 1)) := by
  idx_vars j
  pointwise [k0_pay2]

/-- The arrays as the kernel's pipeline finds them: the activations, the weights, the weights' scales, the two adapter
    factors, the tokens' adapter numbers. -/
abbrev vX (c : Dev nD) : Vec Ideal S384x3072 .bf16 := V m c main_v0
abbrev vW (c : Dev nD) : Vec Ideal S3072x20224 .fp8e4m3 := V m c main_arg1
abbrev vWS (c : Dev nD) : Vec Ideal S1x20224 .f32 := V m c main_v1
abbrev vLA (c : Dev nD) : Vec Ideal S64x3072 .bf16 := V m c main_v3
abbrev vLB (c : Dev nD) : Vec Ideal S64x20224 .bf16 := V m c main_v4
abbrev vTok (c : Dev nD) : Vec Ideal S1x384 .i32 := V m c main_arg5

/-- The result `y` the kernel computes. -/
def yArr (c : Dev nD) : Vec Ideal S384x20224 .bf16 := fun i =>
  (∑ k : Fin 3072, codes (vX m c) (ix2 (i 0) k) * vW m c (ix2 k (i 1))) * scaleS (vX m c) (ix2 (i 0) 0) * vWS m c (ix2 0 (i 1))
    + Ideal.ofBits .f32 0x40000000#32 * ∑ k : Fin 64, proj (vX m c) (vLA m c) (vTok m c) (ix2 (i 0) k) * vLB m c (ix2 k (i 1))

/-- The blocks that are their whole arrays. -/
theorem iblk_0 (c : Dev nD) (t : Fin cfg0.N) : iblk m c 0 t = vX m c := by
  funext j
  obtain ⟨-, -, -, -, -, -, -, -, h0, h1, -⟩ := indices t
  blk_ext! [iblk, h0, h1]
theorem iblk_3 (c : Dev nD) (t : Fin cfg0.N) : iblk m c 3 t = vLA m c := by
  funext j
  obtain ⟨-, -, -, -, -, -, -, -, -, -, h0, h1, -⟩ := indices t
  blk_ext! [iblk, h0, h1]
theorem iblk_5 (c : Dev nD) (t : Fin cfg0.N) : iblk m c 5 t = vTok m c := by
  funext j
  obtain ⟨-, -, -, -, -, -, -, -, -, -, -, -, h0, h1, -⟩ := indices t
  blk_ext! [iblk, h0, h1]

/-- The clipped blocks at a column inside the array, whatever the rest of the buffer holds. -/
theorem fill_1 (c : Dev nD) (t : Fin cfg0.N) (d) (k : Fin 3072) (j : Fin 512) (h : 512 * t.val + j.val < 20224) :
    win0_1.fill (grid0.coords t) d (iblk m c 1 t) (ix2 k j) = vW m c (ix2 k ⟨512 * t.val + j.val, h⟩) := by
  obtain ⟨-, -, x0, x1, -⟩ := xsizes t
  obtain ⟨-, -, h0, h1, -⟩ := indices t
  have hm : win0_1.moved (grid0.coords t) (ix2 k j) = true := (win0_1.moved_iff _ _).mpr fun a => by
    match a with
    | ⟨0, _⟩ => exact lt_of_lt_of_eq k.isLt x0.symm
    | ⟨1, _⟩ => exact lt_of_lt_of_eq (lt_min j.isLt (show j.val < 20224 - 512 * t.val by omega)) x1.symm
  unfold Pipeline.Window.fill
  rw [dif_pos hm]
  blk_ext! [iblk, h0, h1]
theorem fill_2 (c : Dev nD) (t : Fin cfg0.N) (d) (k : Fin 1) (j : Fin 512) (h : 512 * t.val + j.val < 20224) :
    win0_2.fill (grid0.coords t) d (iblk m c 2 t) (ix2 k j) = vWS m c (ix2 k ⟨512 * t.val + j.val, h⟩) := by
  obtain ⟨-, -, -, -, x0, x1, -⟩ := xsizes t
  obtain ⟨-, -, -, -, h0, h1, -⟩ := indices t
  have hm : win0_2.moved (grid0.coords t) (ix2 k j) = true := (win0_2.moved_iff _ _).mpr fun a => by
    match a with
    | ⟨0, _⟩ => exact lt_of_lt_of_eq k.isLt x0.symm
    | ⟨1, _⟩ => exact lt_of_lt_of_eq (lt_min j.isLt (show j.val < 20224 - 512 * t.val by omega)) x1.symm
  unfold Pipeline.Window.fill
  rw [dif_pos hm]
  blk_ext! [iblk, h0, h1]
theorem fill_4 (c : Dev nD) (t : Fin cfg0.N) (d) (k : Fin 64) (j : Fin 512) (h : 512 * t.val + j.val < 20224) :
    win0_4.fill (grid0.coords t) d (iblk m c 4 t) (ix2 k j) = vLB m c (ix2 k ⟨512 * t.val + j.val, h⟩) := by
  obtain ⟨-, -, -, -, -, -, x0, x1⟩ := xsizes t
  obtain ⟨-, -, -, -, -, -, h0, h1, -⟩ := indices t
  have hm : win0_4.moved (grid0.coords t) (ix2 k j) = true := (win0_4.moved_iff _ _).mpr fun a => by
    match a with
    | ⟨0, _⟩ => exact lt_of_lt_of_eq k.isLt x0.symm
    | ⟨1, _⟩ => exact lt_of_lt_of_eq (lt_min j.isLt (show j.val < 20224 - 512 * t.val by omega)) x1.symm
  unfold Pipeline.Window.fill
  rw [dif_pos hm]
  blk_ext! [iblk, h0, h1]

/-- What the body stores in its block of `y`, on the part inside the array, is that part of the result. -/
theorem point_6 (c : Dev nD) (t : Fin cfg0.N) (d1 d2 d4) (j : S384x512.Idx) (h : win0_6.moved (grid0.coords t) j = true) :
    ((win0_6.blk t).view.read (Elt Ideal) (yArr m c)) (fun a => ⟨(j a).val, (win0_6.moved_iff (grid0.coords t) j).mp h a⟩)
      = k0_pay2 (codes (vX m c)) (win0_1.fill (grid0.coords t) d1 (iblk m c 1 t)) (proj (vX m c) (vLA m c) (vTok m c))
          (win0_4.fill (grid0.coords t) d4 (iblk m c 4 t)) (scaleS (vX m c)) (win0_2.fill (grid0.coords t) d2 (iblk m c 2 t)) j := by
  obtain ⟨x0, x1, -⟩ := xsizes t
  obtain ⟨h0, h1, -⟩ := indices t
  have hj : 512 * t.val + (j 1).val < 20224 := by
    have := (win0_6.moved_iff _ _).mp h 1
    have := lt_of_lt_of_eq this x1
    have := lt_of_lt_of_le this (min_le_right _ _)
    omega
  have e : ∀ (y : Vec Ideal S384x20224 .bf16), ((win0_6.blk t).view.read (Elt Ideal) y) (fun a => ⟨(j a).val, (win0_6.moved_iff (grid0.coords t) j).mp h a⟩)
      = y (ix2 (j 0) ⟨512 * t.val + (j 1).val, hj⟩) := fun y => by
    blk_ext! [h0, h1]
  rw [e]
  refine Eq.trans ?_ (pay2_apply _ _ _ _ _ _ j).symm
  rw [fill_2 m c t d2 0 (j 1) hj]
  simp only [fill_1 m c t d1 _ (j 1) hj, fill_4 m c t d4 _ (j 1) hj]
  rfl

/-- Every element of `y` is in some block. -/
theorem cover_6 (i : S384x20224.Idx) : ∃ t : Fin cfg0.N, (cfg0.win 6).flush t = true ∧ i ∈ ((cfg0.win 6).blk t).view.set := by
  refine ⟨⟨(i 1).val / 512, ?_⟩, flush0_6 _, ?_⟩
  · have := (i 1).isLt; show _ < 40; have : (i 1).val < 20224 := (i 1).isLt; omega
  · obtain ⟨x0, x1, -⟩ := xsizes ⟨(i 1).val / 512, by have : (i 1).val < 20224 := (i 1).isLt; show _ < 40; omega⟩
    obtain ⟨h0, h1, -⟩ := indices ⟨(i 1).val / 512, by have : (i 1).val < 20224 := (i 1).isLt; show _ < 40; omega⟩
    refine ((cfg0.win 6).emb_mem_blk_iff _ i).mpr fun a => ?_
    have b0 : (i 0).val < 384 := (i 0).isLt
    have b1 : (i 1).val < 20224 := (i 1).isLt
    match a with
    | ⟨0, _⟩ =>
      refine ⟨?_, ?_⟩
      · show win0_6.index _ 0 * 384 ≤ (i 0).val
        rw [h0]; omega
      · show (i 0).val < win0_6.index _ 0 * 384 + win0_6.xsize _ 0
        rw [h0, x0]; omega
    | ⟨1, _⟩ =>
      refine ⟨?_, ?_⟩
      · show win0_6.index _ 1 * 512 ≤ (i 1).val
        rw [h1]; simp only; omega
      · show (i 1).val < win0_6.index _ 1 * 512 + win0_6.xsize _ 1
        rw [h1, x1]; simp only; omega

end Cert.KernelIdeal.Hand
end
-- ==== Proof.IdealValue.lean ====
/-
  The idealized kernel's run and what it leaves in the three results (hand-written, untrusted): `y` is `yArr`, the codes
  and the scales are the body's first case's values; the argument arrays end unchanged and every counter ends at zero.
-/
module

public import proofs.«01_k».proof.Proof.IdealPoint
public import Idealize.ShloMosaic.Lib.Pipeline.TableIdle

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- What the kernel's own buffers hold between grid points: before the first point anything, from then on the masked
    projections and the scales. -/
def inv (c : Dev nD) (n : ℕ) : sProp 𝕄 := match n with
  | 0 => Pipeline.ΦA spec0 c
  | _ + 1 => iprop(((((c : Thread nD τ).loc cc0_scratch0) ↦{fullShare} proj (vX m c) (vLA m c) (vTok m c))
      ∗ (((c : Thread nD τ).loc cc0_scratch1) ↦{fullShare} scaleS (vX m c))) ∗ ∃ r, prngReg c r)

/-- The proof data: the inputs' staging buffers hold their blocks, the block of `y` its part of the result, the blocks of
    codes and of scales the codes and the scales; past an array's edge words that nothing reads. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => win0_1.fill (grid0.coords t) (fun _ => (Ideal.ofBits .fp8e4m3 0#8 : EReal)) (iblk m c 1 t)
    | ⟨2, _⟩ => win0_2.fill (grid0.coords t) (fun _ => (Ideal.ofBits .f32 0#32 : EReal)) (iblk m c 2 t)
    | ⟨3, _⟩ => iblk m c 3 t
    | ⟨4, _⟩ => win0_4.fill (grid0.coords t) (fun _ => (Ideal.ofBits .bf16 0#16 : EReal)) (iblk m c 4 t)
    | ⟨5, _⟩ => iblk m c 5 t
    | ⟨6, _⟩ => win0_6.fill (grid0.coords t) (fun _ => (0 : Elt Ideal .bf16)) ((win0_6.blk t).view.read (Elt Ideal) (yArr m c))
    | ⟨7, _⟩ => codes (vX m c)
    | ⟨8, _⟩ => scale (vX m c)
  Φ t := inv m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_3 (c : Dev nD) (t : Fin cfg0.N) : (dats m 0 c).after 3 t = iblk m c 3 t := by dsimp only [dats]
theorem after0_5 (c : Dev nD) (t : Fin cfg0.N) : (dats m 0 c).after 5 t = iblk m c 5 t := by dsimp only [dats]

theorem after0_1 (c : Dev nD) (t : Fin cfg0.N) : (dats m 0 c).after 1 t = win0_1.fill (grid0.coords t) (fun _ => (Ideal.ofBits .fp8e4m3 0#8 : EReal)) (iblk m c 1 t) := by dsimp only [dats]
theorem after0_2 (c : Dev nD) (t : Fin cfg0.N) : (dats m 0 c).after 2 t = win0_2.fill (grid0.coords t) (fun _ => (Ideal.ofBits .f32 0#32 : EReal)) (iblk m c 2 t) := by dsimp only [dats]
theorem after0_4 (c : Dev nD) (t : Fin cfg0.N) : (dats m 0 c).after 4 t = win0_4.fill (grid0.coords t) (fun _ => (Ideal.ofBits .bf16 0#16 : EReal)) (iblk m c 4 t) := by dsimp only [dats]
/-- Each input's staging buffer holds its block when the body runs; past an array's edge it holds anything. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = win0_1.fill (grid0.coords t) d (iblk m c 1 t) := by
  unfold Dat.before; rw [if_pos (fetch0_1 t)]; rfl
theorem before0_2 (c : Dev nD) (t : Fin cfg0.N) (d) : (dats m 0 c).before 2 t d = win0_2.fill (grid0.coords t) d (iblk m c 2 t) := by
  unfold Dat.before; rw [if_pos (fetch0_2 t)]; rfl
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = win0_4.fill (grid0.coords t) d (iblk m c 4 t) := by
  unfold Dat.before; rw [if_pos (fetch0_4 t)]; rfl
theorem before0_5 (c : Dev nD) (t : Fin cfg0.N) (d) : (dats m 0 c).before 5 t d = iblk m c 5 t :=
  before0_5_of m (dats m 0 c) (A_eq m c 5) (after0_5 m c) t d

/-- What the body leaves in the clipped inputs' staging buffers, on the part inside the array: their blocks. -/
theorem cut0_1 (c : Dev nD) (t : Fin cfg0.N) : win0_1.cut (grid0.coords t) ((dats m 0 c).after 1 t) = iblk m c 1 t := by
  rw [after0_1]; exact win0_1.cut_fill _ _ _
theorem cut0_2 (c : Dev nD) (t : Fin cfg0.N) : win0_2.cut (grid0.coords t) ((dats m 0 c).after 2 t) = iblk m c 2 t := by
  rw [after0_2]; exact win0_2.cut_fill _ _ _
theorem cut0_4 (c : Dev nD) (t : Fin cfg0.N) : win0_4.cut (grid0.coords t) ((dats m 0 c).after 4 t) = iblk m c 4 t := by
  rw [after0_4]; exact win0_4.cut_fill _ _ _

theorem after0_6 (c : Dev nD) (t : Fin cfg0.N) : (dats m 0 c).after 6 t
    = win0_6.fill (grid0.coords t) (fun _ => (0 : Elt Ideal .bf16)) ((win0_6.blk t).view.read (Elt Ideal) (yArr m c)) := by dsimp only [dats]
theorem after0_7 (c : Dev nD) (t : Fin cfg0.N) : (dats m 0 c).after 7 t = codes (vX m c) := by dsimp only [dats]
theorem after0_8 (c : Dev nD) (t : Fin cfg0.N) : (dats m 0 c).after 8 t = scale (vX m c) := by dsimp only [dats]
theorem cut0_6 (c : Dev nD) (t : Fin cfg0.N) : win0_6.cut (grid0.coords t) ((dats m 0 c).after 6 t) = (win0_6.blk t).view.read (Elt Ideal) (yArr m c) := by
  rw [after0_6]; exact win0_6.cut_fill _ _ _

/-- The blocks of codes and of scales are stored at the first point only, and written back after the last. -/
theorem fresh0_7 : ∀ n, n ≤ cfg0.N → cfg0.fresh 7 n = decide (n = 0 ∨ n = 40) :=
  cfg0.fresh_tab 7 (fun n => decide (n = 0 ∨ n = 40)) rfl (by decide +kernel)
theorem fresh0_8 : ∀ n, n ≤ cfg0.N → cfg0.fresh 8 n = decide (n = 0 ∨ n = 40) :=
  cfg0.fresh_tab 8 (fun n => decide (n = 0 ∨ n = 40)) rfl (by decide +kernel)

/-- So after the first point the body finds them as it left them. -/
theorem before0_7 (c : Dev nD) (t : Fin cfg0.N) (ht : t.val ≠ 0) (d) : (dats m 0 c).before 7 t d = codes (vX m c) := by
  rw [(dats m 0 c).before_out_traj 7 rfl (fun _ _ => rfl) (fun t _ _ _ => by rw [after0_7, after0_7]) t.val t rfl d,
    fresh0_7 t.val t.isLt.le, decide_eq_false (by have : t.val < 40 := t.isLt; omega), after0_7]
  rfl
theorem before0_8 (c : Dev nD) (t : Fin cfg0.N) (ht : t.val ≠ 0) (d) : (dats m 0 c).before 8 t d = scale (vX m c) := by
  rw [(dats m 0 c).before_out_traj 8 rfl (fun _ _ => rfl) (fun t _ _ _ => by rw [after0_8, after0_8]) t.val t rfl d,
    fresh0_8 t.val t.isLt.le, decide_eq_false (by have : t.val < 40 := t.isLt; omega), after0_8]
  rfl

/-- What the library asks of a staging buffer that the body may leave alone, after point `t`. -/
def left (c : Dev nD) (w : Fin cfg0.W) (t : Fin cfg0.N) : sProp 𝕄 :=
  match cfg0.idle w (cfg0.grid.coords t) with
  | true =>
    match (cfg0.win w).flush t with
    | false => iprop(∃ d, owns (c : Thread nD τ) ((cfg0.win w).stage (cfg0.slots t w)) fullShare ((dats m 0 c).before w t d))
    | true => owns (c : Thread nD τ) ((cfg0.win w).stage (cfg0.slots t w)) fullShare ((dats m 0 c).after w t)
  | false => owns (c : Thread nD τ) ((cfg0.win w).stage (cfg0.slots t w)) fullShare ((dats m 0 c).after w t)

theorem idle_7 (t : Fin cfg0.N) : cfg0.idle 7 (cfg0.grid.coords t) = true → t.val ≠ 0 := by
  revert t; decide +kernel
theorem idle_8 (t : Fin cfg0.N) : cfg0.idle 8 (cfg0.grid.coords t) = true → t.val ≠ 0 := by
  revert t; decide +kernel

/-- The buffers of codes and of scales may be handed back at the codes and the scales. -/
theorem left_7 (c : Dev nD) (t : Fin cfg0.N) : owns (c : Thread nD τ) (st0_7 t) fullShare (codes (vX m c)) ⊢ left m c 7 t := by
  unfold left
  cases hi : cfg0.idle 7 (cfg0.grid.coords t)
  · simp only [after0_7]; exact .rfl
  · cases hf : (cfg0.win 7).flush t
    · simp only [before0_7 m c t (idle_7 t hi)]
      iintro H; iexists codes (vX m c); iexact H
    · simp only [after0_7]; exact .rfl
theorem left_8 (c : Dev nD) (t : Fin cfg0.N) : owns (c : Thread nD τ) (st0_8 t) fullShare (scale (vX m c)) ⊢ left m c 8 t := by
  unfold left
  cases hi : cfg0.idle 8 (cfg0.grid.coords t)
  · simp only [after0_8]; exact .rfl
  · cases hf : (cfg0.win 8).flush t
    · simp only [before0_8 m c t (idle_8 t hi)]
      iintro H; iexists scale (vX m c); iexact H
    · simp only [after0_8]; exact .rfl

/-- What the body stores in its block of `y` is the result's block filled out with something. -/
theorem stored_6 (c : Dev nD) (t : Fin cfg0.N) (d1 d2 d4) :
    win0_6.fill (grid0.coords t) (k0_pay2 (codes (vX m c)) (win0_1.fill (grid0.coords t) d1 (iblk m c 1 t)) (proj (vX m c) (vLA m c) (vTok m c))
          (win0_4.fill (grid0.coords t) d4 (iblk m c 4 t)) (scaleS (vX m c)) (win0_2.fill (grid0.coords t) d2 (iblk m c 2 t)))
        ((win0_6.blk t).view.read (Elt Ideal) (yArr m c))
      = k0_pay2 (codes (vX m c)) (win0_1.fill (grid0.coords t) d1 (iblk m c 1 t)) (proj (vX m c) (vLA m c) (vTok m c))
          (win0_4.fill (grid0.coords t) d4 (iblk m c 4 t)) (scaleS (vX m c)) (win0_2.fill (grid0.coords t) d2 (iblk m c 2 t)) := by
  funext j
  unfold Pipeline.Window.fill
  split
  · rename_i h; exact point_6 m c t d1 d2 d4 j h
  · rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare (win0_1.fill (grid0.coords t) d (win0_1.cut (grid0.coords t) ((dats m 0 c).after 1 t))))
    ∗ (∃ d, owns (c : Thread nD τ) (st0_2 t) fullShare (win0_2.fill (grid0.coords t) d (win0_2.cut (grid0.coords t) ((dats m 0 c).after 2 t))))
    ∗ owns (c : Thread nD τ) (st0_3 t) fullShare ((dats m 0 c).after 3 t)
    ∗ (∃ d, owns (c : Thread nD τ) (st0_4 t) fullShare (win0_4.fill (grid0.coords t) d (win0_4.cut (grid0.coords t) ((dats m 0 c).after 4 t))))
    ∗ owns (c : Thread nD τ) (st0_5 t) fullShare ((dats m 0 c).after 5 t)
    ∗ (∃ d, owns (c : Thread nD τ) (st0_6 t) fullShare (win0_6.fill (grid0.coords t) d (win0_6.cut (grid0.coords t) ((dats m 0 c).after 6 t))))
    ∗ left m c 7 t
    ∗ left m c 8 t)

/-- The body at any point, by its two cases. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_3, after0_5, cut0_1, cut0_2, cut0_4, cut0_6, iblk_0, iblk_3, iblk_5]
  have hΦ : (dats m 0 c).Φ t.succ = iprop(((((c : Thread nD τ).loc cc0_scratch0) ↦{fullShare} proj (vX m c) (vLA m c) (vTok m c))
      ∗ (((c : Thread nD τ).loc cc0_scratch1) ↦{fullShare} scaleS (vX m c))) ∗ ∃ r, prngReg c r) := rfl
  by_cases ht : t.val = 0
  · have hc := (cond_iff t).mpr ht
    rw [show (dats m 0 c).Φ t.castSucc = Pipeline.ΦA spec0 c from (show inv m c t.val = _ by rw [ht]; rfl)]
    unfold Pipeline.ΦA
    rw [scopedRest0_eq]
    iintro ⟨⟨⟨⟨%s0, S0⟩, ⟨%s1, S1⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_first c Set.univ _ hc _ _ _ _ _ _ _ _ _ _ _ _ _ _ _ _ _ _ _ _ _ _ (vX m c) (win0_1.fill (grid0.coords t) d1 (iblk m c 1 t))
      (win0_2.fill (grid0.coords t) d2 (iblk m c 2 t)) (vLA m c) (win0_4.fill (grid0.coords t) d4 (iblk m c 4 t)) (vTok m c) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [S0]; · iexists s0; rw [owns_whole]; first | iexact S0 | exact BI.Entails.refl _ | exact .rfl
    isplitl [S1]; · iexists s1; rw [owns_whole]; first | iexact S1 | exact BI.Entails.refl _ | exact .rfl
    iintro ⟨H0, H1, H2, H3, H4, H5, H6, H7, H8, S0, S1⟩
    isplitl [Hr S0 S1]
    · rw [hΦ]
      isplitl [S0 S1]
      · isplitl [S0]
        · rw [owns_whole]; first | iexact S0 | exact BI.Entails.refl _ | exact .rfl
        · rw [owns_whole]; first | iexact S1 | exact BI.Entails.refl _ | exact .rfl
      iexact Hr
    isplitl [Ho]; · iexact Ho
    isplitl [H0]; · iexact H0
    isplitl [H1]; · iexists d1; iexact H1
    isplitl [H2]; · iexists d2; iexact H2
    isplitl [H3]; · iexact H3
    isplitl [H4]; · iexists d4; iexact H4
    isplitl [H5]; · iexact H5
    isplitl [H6]
    · iexists (k0_pay2 (codes (vX m c)) (win0_1.fill (grid0.coords t) d1 (iblk m c 1 t)) (proj (vX m c) (vLA m c) (vTok m c)) (win0_4.fill (grid0.coords t) d4 (iblk m c 4 t)) (scaleS (vX m c)) (win0_2.fill (grid0.coords t) d2 (iblk m c 2 t)))
      rw [stored_6]; iexact H6
    isplitl [H7]; · iapply (left_7 m c t); iexact H7
    iapply (left_8 m c t); iexact H8
  · have hc : ¬ k0_cond1 (grid0.coords t) = 1#1 := fun h => ht ((cond_iff t).mp h)
    rw [show (dats m 0 c).Φ t.castSucc = iprop(((((c : Thread nD τ).loc cc0_scratch0) ↦{fullShare} proj (vX m c) (vLA m c) (vTok m c))
      ∗ (((c : Thread nD τ).loc cc0_scratch1) ↦{fullShare} scaleS (vX m c))) ∗ ∃ r, prngReg c r) from
      (show inv m c t.val = _ by obtain ⟨k, hk⟩ := Nat.exists_eq_succ_of_ne_zero ht; rw [hk]; rfl)]
    simp only [before0_7 m c t ht, before0_8 m c t ht]
    iintro ⟨⟨⟨S0, S1⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_later c Set.univ _ hc _ _ _ _ _ _ _ _ _ _ _ _ _ _ _ _ _ _ _ _ _ _ (vX m c) (win0_1.fill (grid0.coords t) d1 (iblk m c 1 t))
      (win0_2.fill (grid0.coords t) d2 (iblk m c 2 t)) (vLA m c) (win0_4.fill (grid0.coords t) d4 (iblk m c 4 t)) (vTok m c)
      (codes (vX m c)) (scale (vX m c)) (proj (vX m c) (vLA m c) (vTok m c)) (scaleS (vX m c)) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [S0]; · rw [owns_whole]; first | iexact S0 | exact BI.Entails.refl _ | exact .rfl
    isplitl [S1]; · rw [owns_whole]; first | iexact S1 | exact BI.Entails.refl _ | exact .rfl
    iintro ⟨H0, H1, H2, H3, H4, H5, H6, H7, H8, S0, S1⟩
    isplitl [Hr S0 S1]
    · rw [hΦ]
      isplitl [S0 S1]
      · isplitl [S0]
        · rw [owns_whole]; first | iexact S0 | exact BI.Entails.refl _ | exact .rfl
        · rw [owns_whole]; first | iexact S1 | exact BI.Entails.refl _ | exact .rfl
      iexact Hr
    isplitl [Ho]; · iexact Ho
    isplitl [H0]; · iexact H0
    isplitl [H1]; · iexists d1; iexact H1
    isplitl [H2]; · iexists d2; iexact H2
    isplitl [H3]; · iexact H3
    isplitl [H4]; · iexists d4; iexact H4
    isplitl [H5]; · iexact H5
    isplitl [H6]
    · iexists (k0_pay2 (codes (vX m c)) (win0_1.fill (grid0.coords t) d1 (iblk m c 1 t)) (proj (vX m c) (vLA m c) (vTok m c)) (win0_4.fill (grid0.coords t) d4 (iblk m c 4 t)) (scaleS (vX m c)) (win0_2.fill (grid0.coords t) d2 (iblk m c 2 t)))
      rw [stored_6]; iexact H6
    isplitl [H7]; · iapply (left_7 m c t); iexact H7
    iapply (left_8 m c t); iexact H8

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point. -/
theorem body_obligation (c : Dev nD) : BodyObligationLoose (dats m 0 c) (defs₀ (F := Ideal)) Variants.none () Set.univ := fun t => by
  rw [bigSep_W0, bigSep_W0, defs₀_row]
  exact triple_restated (sound_body m c t) rfl .rfl fun _ => .rfl

/-- After the last point the kernel's own buffers hold something. -/
theorem inv_last (c : Dev nD) : (dats m 0 c).Φ (Fin.last cfg0.N) ⊢ Pipeline.ΦA spec0 c := by
  rw [show (dats m 0 c).Φ (Fin.last cfg0.N) = iprop(((((c : Thread nD τ).loc cc0_scratch0) ↦{fullShare} proj (vX m c) (vLA m c) (vTok m c))
      ∗ (((c : Thread nD τ).loc cc0_scratch1) ↦{fullShare} scaleS (vX m c))) ∗ ∃ r, prngReg c r) from rfl]
  unfold Pipeline.ΦA
  rw [scopedRest0_eq]
  iintro ⟨⟨S0, S1⟩, Hr⟩
  isplitl [S0 S1]
  · isplitl [S0]
    · iexists _; iexact S0
    · iexists _; iexact S1
  iexact Hr

/-- Every code and every scale is in the block written back after the last point. -/
theorem cover_7 (i : S384x3072.Idx) : ∃ t : Fin cfg0.N, (cfg0.win 7).flush t = true ∧ i ∈ ((cfg0.win 7).blk t).view.set := by
  refine ⟨⟨39, by decide⟩, (flush0_7 _).mpr rfl, ((cfg0.win 7).emb_mem_blk_iff _ i).mpr fun a => ?_⟩
  obtain ⟨-, -, -, -, -, -, -, -, -, -, -, -, -, -, h0, h1, -⟩ := indices ⟨39, by decide⟩
  match a with
  | ⟨0, _⟩ =>
    have b : (i 0).val < 384 := (i 0).isLt
    exact ⟨by show win0_7.index _ 0 * 384 ≤ (i 0).val; rw [h0]; omega, by show (i 0).val < win0_7.index _ 0 * 384 + 384; rw [h0]; omega⟩
  | ⟨1, _⟩ =>
    have b : (i 1).val < 3072 := (i 1).isLt
    exact ⟨by show win0_7.index _ 1 * 3072 ≤ (i 1).val; rw [h1]; omega, by show (i 1).val < win0_7.index _ 1 * 3072 + 3072; rw [h1]; omega⟩
theorem cover_8 (i : S384x1.Idx) : ∃ t : Fin cfg0.N, (cfg0.win 8).flush t = true ∧ i ∈ ((cfg0.win 8).blk t).view.set := by
  refine ⟨⟨39, by decide⟩, (flush0_8 _).mpr rfl, ((cfg0.win 8).emb_mem_blk_iff _ i).mpr fun a => ?_⟩
  obtain ⟨-, -, -, -, -, -, -, -, -, -, -, -, -, -, -, -, h0, h1⟩ := indices ⟨39, by decide⟩
  match a with
  | ⟨0, _⟩ =>
    have b : (i 0).val < 384 := (i 0).isLt
    exact ⟨by show win0_8.index _ 0 * 384 ≤ (i 0).val; rw [h0]; omega, by show (i 0).val < win0_8.index _ 0 * 384 + 384; rw [h0]; omega⟩
  | ⟨1, _⟩ =>
    have b : (i 1).val < 1 := (i 1).isLt
    exact ⟨by show win0_8.index _ 1 * 1 ≤ (i 1).val; rw [h1]; omega, by show (i 1).val < win0_8.index _ 1 * 1 + 1; rw [h1]; omega⟩

set_option backward.isDefEq.respectTransparency.types false in
set_option maxHeartbeats 800000 in
/-- The run: it terminates, every window's array ends at what the proof data computes, every other array as the region
    found it, and every counter ends at zero. -/
theorem run_main : θ_run defs (onTc (τ := τ) (main (F := Ideal))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m)
    (hin := fun c => .rfl) (hout := fun c => inv_last m c)

/-- `y` ends at `yArr`. -/
theorem final_y (c : Dev nD) : (dats m 0 c).arrAt 6 cfg0.N = yArr m c :=
  (dats m 0 c).arrAt_eq_of_cover 6 (yArr m c) (fun t _ => cut0_6 m c t) (cover_6)

/-- Its block is the whole array. -/
theorem whole_7 (t : Fin cfg0.N) (G : Vec Ideal S384x3072 .fp8e4m3) : win0_7.cut (grid0.coords t) G = (win0_7.blk t).view.read (Elt Ideal) G := by
  obtain ⟨-, -, -, -, -, -, -, -, -, -, -, -, -, -, h0, h1, -⟩ := indices t
  funext j
  have b0 : (j 0).val < 384 := (j 0).isLt
  have b1 : (j 1).val < 3072 := (j 1).isLt
  have e : (win0_7.blk t).view.read (Elt Ideal) G j = G (ix2 ⟨(j 0).val, b0⟩ ⟨(j 1).val, b1⟩) := by
    blk_ext! [h0, h1]
  rw [e]
  exact congrArg G (funext fun a => match a with | ⟨0, _⟩ => rfl | ⟨1, _⟩ => rfl)

/-- The codes end at `codes`, -/
theorem final_codes (c : Dev nD) : (dats m 0 c).arrAt 7 cfg0.N = codes (vX m c) :=
  (dats m 0 c).arrAt_eq_of_cover 7 (codes (vX m c)) (fun t _ => (congrArg (win0_7.cut (grid0.coords t)) (after0_7 m c t)).trans (whole_7 t _)) cover_7

/-- Its block is the whole array. -/
theorem whole_8 (t : Fin cfg0.N) (G : Vec Ideal S384x1 .f32) : win0_8.cut (grid0.coords t) G = (win0_8.blk t).view.read (Elt Ideal) G := by
  obtain ⟨-, -, -, -, -, -, -, -, -, -, -, -, -, -, -, -, h0, h1⟩ := indices t
  funext j
  have b0 : (j 0).val < 384 := (j 0).isLt
  have b1 : (j 1).val < 1 := (j 1).isLt
  have e : (win0_8.blk t).view.read (Elt Ideal) G j = G (ix2 ⟨(j 0).val, b0⟩ ⟨(j 1).val, b1⟩) := by
    blk_ext! [h0, h1]
  rw [e]
  exact congrArg G (funext fun a => match a with | ⟨0, _⟩ => rfl | ⟨1, _⟩ => rfl)

/-- and the scales at `scale`. -/
theorem final_scales (c : Dev nD) : (dats m 0 c).arrAt 8 cfg0.N = scale (vX m c) :=
  (dats m 0 c).arrAt_eq_of_cover 8 (scale (vX m c)) (fun t _ => (congrArg (win0_8.cut (grid0.coords t)) (after0_8 m c t)).trans (whole_8 t _)) cover_8

/-- The results and the frame: every execution terminates, the results end at these values, the argument arrays end
    unchanged, every counter ends at zero. -/
theorem results : θ_run defs (onTc (τ := τ) (main (F := Ideal))) ⟨m, fun _ => 0, ρ⟩ (fun r => (∀ c : Dev nD,
      r.2.mem ((c.tc : Thread nD τ).loc main_v5_0) = yArr m c
      ∧ r.2.mem ((c.tc : Thread nD τ).loc main_v5_1) = codes (vX m c)
      ∧ r.2.mem ((c.tc : Thread nD τ).loc main_v5_2) = scale (vX m c))) :=
  (θ_run defs _ _).mono (fun r ⟨h, hz⟩ => fun c =>
    ⟨((h c).1 6).trans (final_y m c), ((h c).1 7).trans (final_codes m c), ((h c).1 8).trans (final_scales m c)⟩) (run_main m ρ)

/-- THE FRAME: every execution terminates, the argument arrays end unchanged, every counter ends at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Hand

end
-- ==== Proof.Scale.lean ====
/-
  The scale of a row (hand-written, untrusted): the bisection over exponent fields finds the binade of its argument, and
  the least power of two above the argument is the power the found field spells.
-/
module

public import Idealize.ShloMosaic.Lib.IdealHost

@[expose] public section

set_option maxRecDepth 16384

noncomputable section

namespace Cert.Scale

open Idealize.ShloMosaic

/-- The real power of two. -/
abbrev pow2 (k : ℤ) : EReal := (((2 : ℝ) ^ k : ℝ) : EReal)

/-- Powers of two are ordered as their exponents (this and the next). -/
theorem pow2_lt (a b : ℤ) : pow2 a < pow2 b ↔ a < b := by
  rw [EReal.coe_lt_coe_iff]
  exact zpow_lt_zpow_iff_right₀ (by norm_num)

theorem pow2_le (a b : ℤ) : pow2 a ≤ pow2 b ↔ a ≤ b := by
  rw [EReal.coe_le_coe_iff]
  exact zpow_le_zpow_iff_right₀ (by norm_num)

/-- The float whose exponent field is `n` and whose other bits are zero is `2 ^ (n - 127)`, -/
theorem ofBits_field (n : ℕ) (h1 : 1 ≤ n) (h2 : n ≤ 254) :
    Ideal.ofBits .f32 (BitVec.ofNat 32 n <<< 23) = pow2 ((n : ℤ) - 127) := by
  have e : (BitVec.ofNat 32 n <<< 23).toNat = n * 2 ^ 23 := by
    rw [BitVec.toNat_shiftLeft, BitVec.toNat_ofNat, Nat.shiftLeft_eq]; omega
  have ex : ((BitVec.ofNat 32 n <<< 23).extractLsb' 23 8).toNat = n := by
    rw [BitVec.extractLsb'_toNat, e, Nat.shiftRight_eq_div_pow]; omega
  have fr : ((BitVec.ofNat 32 n <<< 23).extractLsb' 0 23).toNat = 0 := by
    rw [BitVec.extractLsb'_toNat, e, Nat.shiftRight_eq_div_pow]; omega
  have ng : ((BitVec.ofNat 32 n <<< 23).extractLsb' 31 1 == 1#1) = false := by
    rw [beq_eq_false_iff_ne]
    intro h
    have := congrArg BitVec.toNat h
    rw [BitVec.extractLsb'_toNat, e, Nat.shiftRight_eq_div_pow] at this
    simp at this
    omega
  show Ideal.ieee 8 23 (BitVec.ofNat 32 n <<< 23) = _
  unfold Ideal.ieee
  simp only [ex, fr, ng, Nat.reduceAdd]
  rw [if_neg (by omega), if_neg (by omega)]
  refine congrArg (Real.toEReal) ?_
  have h : ((n : ℤ) - (2 ^ (8 - 1) - 1) - (23 : ℕ)) = ((n : ℤ) - 127) - 23 := by norm_num
  rw [h, zpow_sub₀ (by norm_num)]
  norm_num
  ring

/-- and where the field is all ones, infinity. -/
theorem ofBits_field_top : Ideal.ofBits .f32 (BitVec.ofNat 32 255 <<< 23) = ⊤ := by
  show Ideal.ieee 8 23 (BitVec.ofNat 32 255 <<< 23) = _
  simp [Ideal.ieee]

/-- One step of the bisection: the bit `b` is taken into the field unless the argument lies below the power it spells. -/
def step (v : EReal) (b f : BitVec 32) : BitVec 32 := if v < Ideal.ofBits .f32 ((f + b) <<< 23) then f else f + b

/-- The bisection. -/
def field (v : EReal) : BitVec 32 :=
  step v 1#32 (step v 2#32 (step v 4#32 (step v 8#32 (step v 16#32 (step v 32#32 (step v 64#32 (step v 128#32 0#32)))))))

/-- The exponent of the scale. -/
def expo (v : EReal) : BitVec 32 := if field v = 0#32 then 0#32 else field v - 126#32

/-- The power of two that the exponent field `n` spells. -/
def thr (n : ℕ) : EReal := if n = 255 then ⊤ else pow2 ((n : ℤ) - 127)

/-- The float a field stands for is its threshold. -/
theorem ofBits_thr (n : ℕ) (h1 : 1 ≤ n) (h2 : n ≤ 255) : Ideal.ofBits .f32 (BitVec.ofNat 32 n <<< 23) = thr n := by
  unfold thr
  split
  · rename_i h; subst h; exact ofBits_field_top
  · exact ofBits_field n h1 (by omega)

/-- Where the bisection stands: the argument is not below the field's power, and below that of the field's and `b`'s sum. -/
def At (v : EReal) (f b : ℕ) : Prop := f + b ≤ 256 ∧ (f = 0 ∨ thr f ≤ v) ∧ (f + b = 256 ∨ v < thr (f + b))

/-- One step of the bisection halves the range. -/
theorem At.step {v : EReal} {f : ℕ} (b : ℕ) (hb : 1 ≤ b) (h : At v f (b + b)) :
    ∃ f', Scale.step v (BitVec.ofNat 32 b) (BitVec.ofNat 32 f) = BitVec.ofNat 32 f' ∧ At v f' b := by
  obtain ⟨h1, h2, h3⟩ := h
  have e : (BitVec.ofNat 32 f + BitVec.ofNat 32 b) = BitVec.ofNat 32 (f + b) := (BitVec.ofNat_add ..).symm
  unfold Scale.step
  rw [e, ofBits_thr (f + b) (by omega) (by omega)]
  split
  · rename_i h; exact ⟨f, rfl, by omega, h2, .inr h⟩
  · rename_i h
    exact ⟨f + b, rfl, by omega, .inr (not_lt.mp h), by rw [add_assoc]; exact h3⟩

/-- The bisection's field: the argument is not below its power, and below the next one. -/
theorem field_spec (v : EReal) : ∃ f, field v = BitVec.ofNat 32 f ∧ f ≤ 255 ∧ (f = 0 ∨ thr f ≤ v) ∧ (f = 255 ∨ v < thr (f + 1)) := by
  obtain ⟨f1, e1, h1⟩ := At.step (v := v) (f := 0) 128 (by norm_num) ⟨by norm_num, .inl rfl, .inl rfl⟩
  obtain ⟨f2, e2, h2⟩ := At.step 64 (by norm_num) h1
  obtain ⟨f3, e3, h3⟩ := At.step 32 (by norm_num) h2
  obtain ⟨f4, e4, h4⟩ := At.step 16 (by norm_num) h3
  obtain ⟨f5, e5, h5⟩ := At.step 8 (by norm_num) h4
  obtain ⟨f6, e6, h6⟩ := At.step 4 (by norm_num) h5
  obtain ⟨f7, e7, h7⟩ := At.step 2 (by norm_num) h6
  obtain ⟨f8, e8, h8⟩ := At.step 1 (by norm_num) h7
  refine ⟨f8, ?_, by have := h8.1; omega, h8.2.1, ?_⟩
  · unfold field
    rw [e1, e2, e3, e4, e5, e6, e7, e8]
  · rcases h8.2.2 with h | h
    · exact .inl (by omega)
    · exact .inr h

/-- The rows the claim is about: the argument is zero or in the range of the normal floats whose scale's inverse is one. -/
def Normal (v : EReal) : Prop := v = 0 ∨ (pow2 (-126) ≤ v ∧ v < pow2 126)

/-- At zero the exponent is zero. -/
theorem expo_zero : expo 0 = 0#32 := by
  obtain ⟨f, hf, h255, h1, h2⟩ := field_spec 0
  have : f = 0 := by
    rcases h1 with h | h
    · exact h
    · exfalso
      refine absurd h (not_le.mpr ?_)
      unfold thr
      split
      · exact EReal.zero_lt_top
      · exact EReal.coe_pos.mpr (zpow_pos (by norm_num) _)
  unfold expo
  rw [hf, this]
  rfl

/-- At a normal argument the exponent `k` is the binade's: `2 ^ (k - 1) ≤ v < 2 ^ k`. -/
theorem expo_normal (v : EReal) (h1 : pow2 (-126) ≤ v) (h2 : v < pow2 126) :
    ∃ f : ℕ, 1 ≤ f ∧ f ≤ 252 ∧ expo v = BitVec.ofNat 32 f - 126#32 ∧ pow2 ((f : ℤ) - 127) ≤ v ∧ v < pow2 ((f : ℤ) - 126) := by
  obtain ⟨f, hf, h255, h3, h4⟩ := field_spec v
  have a : f ≠ 0 := by
    rintro rfl
    rcases h4 with h | h
    · omega
    · exact absurd (lt_of_le_of_lt h1 h) (by simp [thr])
  have h3 := h3.resolve_left a
  have b : f ≤ 252 := by
    by_contra hb
    have := lt_of_le_of_lt h3 h2
    unfold thr at this
    split at this
    · exact absurd this (by simp)
    · rw [pow2_lt] at this; omega
  have h4 := h4.resolve_left (by omega)
  refine ⟨f, by omega, b, ?_, ?_, ?_⟩
  · unfold expo
    rw [hf, if_neg]
    intro h
    have := congrArg BitVec.toNat h
    simp at this
    omega
  · rwa [thr, if_neg (by omega)] at h3
  · rw [thr, if_neg (by omega)] at h4
    convert h4 using 2
    push_cast; ring

/-- The scale the exponent spells, -/
def scale (v : EReal) : EReal := Ideal.ofBits .f32 ((expo v + 127#32) <<< 23)

/-- and its inverse. -/
def inv (v : EReal) : EReal := Ideal.ofBits .f32 ((0#32 - expo v + 127#32) <<< 23)

/-- At zero both are one. -/
theorem scale_zero : scale 0 = 1 := by
  unfold scale; rw [expo_zero]
  exact (ofBits_field 127 (by norm_num) (by norm_num)).trans (by norm_num [pow2])
/-- The inverse scale of zero is one. -/
theorem inv_zero : inv 0 = 1 := by
  unfold inv; rw [expo_zero]
  exact (ofBits_field 127 (by norm_num) (by norm_num)).trans (by norm_num [pow2])

/-- At a normal argument they are the least power of two above it and that one's inverse. -/
theorem scale_normal (v : EReal) (h1 : pow2 (-126) ≤ v) (h2 : v < pow2 126) :
    ∃ k : ℤ, -125 ≤ k ∧ k ≤ 126 ∧ scale v = pow2 k ∧ inv v = pow2 (-k) ∧ pow2 (k - 1) ≤ v ∧ v < pow2 k := by
  obtain ⟨f, f1, f2, e, l, u⟩ := expo_normal v h1 h2
  refine ⟨(f : ℤ) - 126, by omega, by omega, ?_, ?_, ?_, u⟩
  · unfold scale
    have : expo v + 127#32 = BitVec.ofNat 32 (f + 1) := by
      rw [e]; apply BitVec.eq_of_toNat_eq; simp; omega
    rw [this, ofBits_field _ (by omega) (by omega)]
    exact congrArg pow2 (by omega)
  · unfold inv
    have : 0#32 - expo v + 127#32 = BitVec.ofNat 32 (253 - f) := by
      rw [e]; apply BitVec.eq_of_toNat_eq; simp; omega
    rw [this, ofBits_field _ (by omega) (by omega)]
    exact congrArg pow2 (by omega)
  · convert l using 2
    ring

/-- The least entry above `v` of the table of powers `2 ^ (i - 125)`, `i < 252`, or infinity. -/
def least (v : EReal) : EReal :=
  Finset.univ.fold min ⊤ fun i : Fin 252 => if v < pow2 ((i.val : ℤ) - 125) then pow2 ((i.val : ℤ) - 125) else ⊤

/-- The least entry above a normal argument is its scale. -/
theorem least_normal (v : EReal) (h1 : pow2 (-126) ≤ v) (h2 : v < pow2 126) : least v = scale v := by
  obtain ⟨k, k1, k2, e, -, l, u⟩ := scale_normal v h1 h2
  rw [e]
  unfold least
  apply le_antisymm
  · rw [Finset.fold_min_le]
    refine .inr ⟨⟨(k + 125).toNat, by omega⟩, Finset.mem_univ _, ?_⟩
    have : (((k + 125).toNat : ℕ) : ℤ) - 125 = k := by omega
    show (if v < pow2 ((((k + 125).toNat : ℕ) : ℤ) - 125) then pow2 ((((k + 125).toNat : ℕ) : ℤ) - 125) else ⊤) ≤ _
    rw [this, if_pos u]
  · rw [Finset.le_fold_min]
    refine ⟨le_top, fun i _ => ?_⟩
    split
    · rename_i h
      have := lt_of_le_of_lt l h
      rw [pow2_lt] at this
      rw [pow2_le]; omega
    · exact le_top

/-- The quotient of one by a power of two. -/
theorem one_div_pow2 (k : ℤ) : Ideal.div 1 (pow2 k) = pow2 (-k) := by
  have h : (2 : ℝ) ^ k ≠ 0 := (zpow_pos (by norm_num) k).ne'
  unfold Ideal.div
  rw [if_neg (by rw [EReal.coe_eq_zero]; exact h), one_mul, ← EReal.coe_inv, pow2, zpow_neg]

/-- The quotient of one by the scale is the inverse scale. -/
theorem one_div_scale (v : EReal) (h : Normal v) : Ideal.div 1 (scale v) = inv v := by
  rcases h with rfl | ⟨h1, h2⟩
  · rw [scale_zero, inv_zero]
    have := one_div_pow2 0
    simpa [pow2] using this
  · obtain ⟨k, -, -, e, e', -⟩ := scale_normal v h1 h2
    rw [e, e', one_div_pow2]

end Cert.Scale

end
-- ==== Proof.Spec.lean ====
/-
  The results as functions of the arguments (hand-written, untrusted), index by index: what the kernel's and the
  reference's values are both shown to be.
-/
module

public import proofs.«01_k».proof.Proof.Scale

@[expose] public section

set_option maxRecDepth 16384

noncomputable section

namespace Cert.Spec

open Idealize.ShloMosaic

/-- The argument of row `r`'s scale: its largest absolute value over 448. -/
def rowArg (X : Fin 384 → Fin 3072 → EReal) (r : Fin 384) : EReal :=
  Finset.univ.fold max ⊥ (fun d => FloatOps.absf (F := Ideal) (φ := .f32) (X r d)) * Ideal.ofBits .f32 0x3B124925#32

/-- The codes: the activations over the row's scale, between -448 and 448. -/
def code (X : Fin 384 → Fin 3072 → EReal) (r : Fin 384) (d : Fin 3072) : EReal :=
  min (Ideal.ofBits .f32 0x43E00000#32) (max (Ideal.ofBits .f32 0xC3E00000#32) (X r d * Scale.inv (rowArg X r)))

/-- One where token `r` has adapter `l`, else zero. -/
def mask (T : Fin 384 → BitVec 32) (r : Fin 384) (l : Fin 4) : EReal := if T r = BitVec.ofNat 32 l.val then 1 else 0

/-- The adapters' part: over the adapters and their ranks, the token's masked projection times the second factor. -/
def lora (X : Fin 384 → Fin 3072 → EReal) (A : Fin 4 → Fin 3072 → Fin 16 → EReal) (B : Fin 4 → Fin 16 → Fin 20224 → EReal)
    (T : Fin 384 → BitVec 32) (r : Fin 384) (o : Fin 20224) : EReal :=
  ∑ l : Fin 4, ∑ q : Fin 16, (∑ d : Fin 3072, X r d * A l d q) * mask T r l * B l q o

/-- The result `y`. -/
def out (X : Fin 384 → Fin 3072 → EReal) (W : Fin 3072 → Fin 20224 → EReal) (S : Fin 20224 → EReal)
    (A : Fin 4 → Fin 3072 → Fin 16 → EReal) (B : Fin 4 → Fin 16 → Fin 20224 → EReal) (T : Fin 384 → BitVec 32)
    (r : Fin 384) (o : Fin 20224) : EReal :=
  (∑ d : Fin 3072, code X r d * W d o) * Scale.scale (rowArg X r) * S o + Ideal.ofBits .f32 0x40000000#32 * lora X A B T r o

/-- A sum over 64 lanes is the sum over adapters and ranks, lane `16 l + q` being rank `q` of adapter `l`. -/
theorem sum_lanes (f : Fin 64 → EReal) : ∑ k, f k = ∑ l : Fin 4, ∑ q : Fin 16, f (finProdFinEquiv (m := 4) (n := 16) (l, q)) := by
  rw [← Fintype.sum_prod_type', ← (finProdFinEquiv (m := 4) (n := 16)).sum_comp]

/-- Lane `16 l + q` belongs to adapter `l`, rank `q` (this and the next). -/
theorem lane_div (l : Fin 4) (q : Fin 16) : (finProdFinEquiv (m := 4) (n := 16) (l, q)).val / 16 = l.val := by
  simp only [finProdFinEquiv_apply_val]; omega
theorem lane_mod (l : Fin 4) (q : Fin 16) : (finProdFinEquiv (m := 4) (n := 16) (l, q)).val % 16 = q.val := by
  simp only [finProdFinEquiv_apply_val]; omega

/-- The patterns of minus infinity and infinity. -/
theorem bot_bf16 : Ideal.ofBits .bf16 0xFF80#16 = ⊥ := by simp [Ideal.ofBits, Ideal.ieee]
theorem bot_f32 : Ideal.ofBits .f32 0xFF800000#32 = ⊥ := by simp [Ideal.ofBits, Ideal.ieee]
theorem top_f32 : Ideal.ofBits .f32 0x7F800000#32 = ⊤ := by simp [Ideal.ofBits, Ideal.ieee]

end Cert.Spec

end
-- ==== Proof.IdealSpec.lean ====
/-
  What the idealized kernel leaves in its results, as the specification's functions of the arguments (hand-written,
  untrusted): the bisection by its steps, the codes, the scales, the masked projections, and the result `y`.
-/
module

public import proofs.«01_k».proof.Proof.IdealPoint
public import proofs.«01_k».proof.Proof.Spec
public import Idealize.ShloMosaic.Lib.Pipeline.ValueKit.Point

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-! ## The integer operations, within their ranges -/

theorem shl23 (a : BitVec 32) : IntOp.shli ArithUnit.vector a 23#32 = a <<< 23 := by simp [IntOp.shli]
theorem add_eq (a b : BitVec 32) : IntOp.addi a b = a + b := rfl
theorem sub_eq (a b : BitVec 32) : IntOp.subi a b = a - b := rfl

/-! ## The exponents -/

/-- One step of the bisection, over all rows. -/
def vstep (v : FVec Ideal S384x1 .f32) (b : BitVec 32) (f : IVec S384x1 32) : IVec S384x1 32 :=
  select (cmpf .olt v (bitcastToFloat .f32 (shli (addi f (broadcast S384x1 b)) (broadcast S384x1 23#32)))) f (addi f (broadcast S384x1 b))

/-- At a row it is the step on that row's argument. -/
theorem vstep_apply (v : FVec Ideal S384x1 .f32) (b : BitVec 32) (f : IVec S384x1 32) (j : S384x1.Idx) :
    vstep v b f j = Scale.step (v j) b (f j) := by
  unfold vstep Scale.step
  idx_vars j
  pointwise
  rw [shl23, add_eq]

/-- What turns the fields into exponents, over all rows. -/
def vexp (f : IVec S384x1 32) : IVec S384x1 32 :=
  select (cmpi .eq f (broadcast S384x1 0#32)) (broadcast S384x1 0#32) (subi f (broadcast S384x1 126#32))

theorem vexp_apply (f : IVec S384x1 32) (j : S384x1.Idx) : vexp f j = if f j = 0#32 then 0#32 else f j - 126#32 := by
  unfold vexp
  idx_vars j
  pointwise
  by_cases h : f (ix2 j0 j1) = 0#32
  · simp [h, Scalar.select, IntOp.cmpi, IntOp.subi]
  · have hb : (f (ix2 j0 j1) == 0#32) = false := beq_eq_false_iff_ne.mpr h
    simp [h, hb, Scalar.select, IntOp.cmpi, IntOp.subi]

/-- The first three steps, -/
theorem pay5_steps (x : Vec Ideal S384x3072 .bf16) :
    k0_pay5 x = vstep (k0_pay4 x) 32#32 (vstep (k0_pay4 x) 64#32 (vstep (k0_pay4 x) 128#32 (broadcast S384x1 0#32))) := by
  rfl

/-- the fourth, -/
theorem pay6_step (x : Vec Ideal S384x3072 .bf16) :
    select (k0_pay6 x) (k0_pay5 x) (addi (k0_pay5 x) k0_pay7) = vstep (k0_pay4 x) 16#32 (k0_pay5 x) := by
  rfl

/-- and the others. -/
theorem pay8_steps (v : FVec Ideal S384x1 .f32) (f : IVec S384x1 32) (b : IVec S384x1 1) (g : IVec S384x1 32) :
    k0_pay8 v f b g = vexp (vstep v 1#32 (vstep v 2#32 (vstep v 4#32 (vstep v 8#32 (select b f (addi f g)))))) := by
  rfl

/-- A row's exponent is the specification's. -/
theorem expo_apply (x : Vec Ideal S384x3072 .bf16) (j : S384x1.Idx) : expo x j = Scale.expo (k0_pay4 x j) := by
  unfold expo
  rw [pay8_steps, pay6_step, pay5_steps, vexp_apply]
  simp only [vstep_apply]
  rfl

/-- The rows' arguments. -/
theorem pay4_apply (x : Vec Ideal S384x3072 .bf16) (r : Fin 384) (z : Fin 1) :
    k0_pay4 x (ix2 r z) = Spec.rowArg (fun r d => x (ix2 r d)) r := by
  unfold Spec.rowArg
  rw [← Spec.bot_bf16]
  pointwise [k0_pay4, k0_pay3]
  rfl

/-! ## The values from the activations -/

/-- The codes' body, at an index. -/
theorem codes_apply (x : Vec Ideal S384x3072 .bf16) (r : Fin 384) (d : Fin 3072) :
    codes x (ix2 r d) = Spec.code (fun r d => x (ix2 r d)) r d := by
  unfold Spec.code Scale.inv
  pointwise [codes, k0_pay10, k0_pay3]
  rw [expo_apply, pay4_apply, shl23, add_eq, sub_eq]

/-- The scales' body, at an index. -/
theorem scale_apply (x : Vec Ideal S384x3072 .bf16) (r : Fin 384) (z : Fin 1) :
    scale x (ix2 r z) = Scale.scale (Spec.rowArg (fun r d => x (ix2 r d)) r) := by
  unfold scale k0_pay9 Scale.scale
  pointwise
  rw [expo_apply, pay4_apply, shl23, add_eq]

/-- The scales kept in scratch, at an index. -/
theorem scaleS_apply (x : Vec Ideal S384x3072 .bf16) (r : Fin 384) (z : Fin 1) :
    scaleS x (ix2 r z) = Scale.scale (Spec.rowArg (fun r d => x (ix2 r d)) r) := by
  unfold scaleS k0_pay11 k0_pay9 Scale.scale
  pointwise
  rw [expo_apply, pay4_apply, shl23, add_eq]

/-- The lane's adapter: the floor of the lane over 16, as the kernel computes it. -/
theorem lane : ∀ k : Fin 64,
    Scalar.select
      (IntOp.andi
        (IntOp.cmpi CmpIPredicate.ne
          (IntOp.subi (BitVec.setWidth 32 (IntOp.cmpi CmpIPredicate.sgt (BitVec.ofNat 32 k.val) 0#32))
            (BitVec.setWidth 32 (IntOp.cmpi CmpIPredicate.slt (BitVec.ofNat 32 k.val) 0#32)))
          (Scalar.subi (Scalar.extui (Scalar.cmpi CmpIPredicate.sgt 16#32 0#32))
            (Scalar.extui (Scalar.cmpi CmpIPredicate.slt 16#32 0#32))))
        (IntOp.cmpi CmpIPredicate.ne (IntOp.remsi ArithUnit.vector (BitVec.ofNat 32 k.val) 16#32) 0#32))
      (IntOp.subi (IntOp.divsi ArithUnit.vector (BitVec.ofNat 32 k.val) 16#32) 1#32)
      (IntOp.divsi ArithUnit.vector (BitVec.ofNat 32 k.val) 16#32) = BitVec.ofNat 32 (k.val / 16) := by
  decide +kernel

/-- The equality of two words, as a float. -/
theorem eq_float (a b : BitVec 32) :
    FloatOps.sitofp (F := Ideal) FTy.f32 (BitVec.setWidth 32 (IntOp.cmpi CmpIPredicate.eq a b)) = if b = a then (1 : EReal) else 0 := by
  show (((BitVec.setWidth 32 (IntOp.cmpi CmpIPredicate.eq a b)).toInt : ℝ) : EReal) = _
  by_cases h : b = a
  · subst h
    rw [if_pos rfl]
    simp [IntOp.cmpi]
  · have hb : (a == b) = false := beq_eq_false_iff_ne.mpr (Ne.symm h)
    rw [if_neg h]
    simp [IntOp.cmpi, hb]

/-- The masked projections. -/
theorem proj_apply (x : Vec Ideal S384x3072 .bf16) (la : Vec Ideal S64x3072 .bf16) (tok : Vec Ideal S1x384 .i32) (r : Fin 384) (k : Fin 64) :
    proj x la tok (ix2 r k) = (∑ d : Fin 3072, la (ix2 k d) * x (ix2 r d))
      * (if tok (ix2 0 r) = BitVec.ofNat 32 (k.val / 16) then (1 : EReal) else 0) := by
  pointwise [proj, k0_pay1, k0_pay12, k0_pay13, k0_pay14, k0_pay3]
  rw [lane, eq_float]

/-! ## The arrays the pipeline finds, from the arguments -/

variable (m : (ℓ : Loc nD τ sig) → Buf (Elt Ideal) ℓ)

/-- The arguments, index by index. -/
def gX (c : Dev nD) (r : Fin 384) (d : Fin 3072) : EReal := (m ((c.tc : Thread nD τ).loc main_arg0) : Vec Ideal S1x384x3072 .bf16) (ix3 0 r d)
def gW (c : Dev nD) (d : Fin 3072) (o : Fin 20224) : EReal := (m ((c.tc : Thread nD τ).loc main_arg1) : Vec Ideal S3072x20224 .fp8e4m3) (ix2 d o)
def gS (c : Dev nD) (o : Fin 20224) : EReal := (m ((c.tc : Thread nD τ).loc main_arg2) : Vec Ideal S20224 .f32) (ix1 o)
def gA (c : Dev nD) (l : Fin 4) (d : Fin 3072) (q : Fin 16) : EReal := (m ((c.tc : Thread nD τ).loc main_arg3) : Vec Ideal S4x3072x16 .bf16) (ix3 l d q)
def gB (c : Dev nD) (l : Fin 4) (q : Fin 16) (o : Fin 20224) : EReal := (m ((c.tc : Thread nD τ).loc main_arg4) : Vec Ideal S4x16x20224 .bf16) (ix3 l q o)
def gT (c : Dev nD) (r : Fin 384) : BitVec 32 := (m ((c.tc : Thread nD τ).loc main_arg5) : Vec Ideal S1x384 .i32) (ix2 0 r)

/-- What the kernel finds in its arrays, from the arguments (this and the next five). -/
theorem vX_apply (c : Dev nD) (r : Fin 384) (d : Fin 3072) : vX m c (ix2 r d) = gX m c r d := by
  simp only [vX]
  entry_read
  pointwise
  rfl
theorem vW_apply (c : Dev nD) (d : Fin 3072) (o : Fin 20224) : vW m c (ix2 d o) = gW m c d o := by
  simp only [vW]
  entry_read
  rfl
theorem vWS_apply (c : Dev nD) (o : Fin 20224) : vWS m c (ix2 0 o) = gS m c o := by
  simp only [vWS]
  entry_read
  pointwise
  rfl
theorem vLA_apply (c : Dev nD) (k : Fin 64) (d : Fin 3072) :
    vLA m c (ix2 k d) = gA m c ⟨k.val / 16, by omega⟩ d ⟨k.val % 16, by omega⟩ := by
  simp only [vLA]
  entry_read
  pointwise
  rfl
theorem vLB_apply (c : Dev nD) (k : Fin 64) (o : Fin 20224) :
    vLB m c (ix2 k o) = gB m c ⟨k.val / 16, by omega⟩ ⟨k.val % 16, by omega⟩ o := by
  simp only [vLB]
  entry_read
  pointwise
  rfl
theorem vTok_apply (c : Dev nD) (r : Fin 384) : vTok m c (ix2 0 r) = gT m c r := by
  simp only [vTok]
  entry_read
  rfl

/-! ## The results -/

theorem vX_eq (c : Dev nD) : (fun r d => vX m c (ix2 r d)) = gX m c := funext fun r => funext fun d => vX_apply m c r d

/-- The kernel's codes are the specification's. -/
theorem codes_eq (c : Dev nD) (r : Fin 384) (d : Fin 3072) : codes (vX m c) (ix2 r d) = Spec.code (gX m c) r d :=
  (codes_apply _ r d).trans (congrArg (fun X => Spec.code X r d) (vX_eq m c))

/-- The kernel's scales are the specification's. -/
theorem scale_eq (c : Dev nD) (r : Fin 384) (z : Fin 1) : scale (vX m c) (ix2 r z) = Scale.scale (Spec.rowArg (gX m c) r) :=
  (scale_apply _ r z).trans (congrArg (fun X => Scale.scale (Spec.rowArg X r)) (vX_eq m c))

/-- The scales kept in scratch are the specification's. -/
theorem scaleS_eq (c : Dev nD) (r : Fin 384) (z : Fin 1) : scaleS (vX m c) (ix2 r z) = Scale.scale (Spec.rowArg (gX m c) r) :=
  (scaleS_apply _ r z).trans (congrArg (fun X => Scale.scale (Spec.rowArg X r)) (vX_eq m c))

/-- The kernel's product over 64 lanes is the specification's adapters' part. -/
theorem lora_eq (c : Dev nD) (r : Fin 384) (o : Fin 20224) :
    ∑ k : Fin 64, proj (vX m c) (vLA m c) (vTok m c) (ix2 r k) * vLB m c (ix2 k o)
      = Spec.lora (gX m c) (gA m c) (gB m c) (gT m c) r o := by
  unfold Spec.lora Spec.mask
  rw [Spec.sum_lanes]
  refine Finset.sum_congr rfl fun l _ => Finset.sum_congr rfl fun q _ => ?_
  have hl : (⟨(finProdFinEquiv (m := 4) (n := 16) (l, q)).val / 16, by omega⟩ : Fin 4) = l := Fin.ext (Spec.lane_div l q)
  have hq : (⟨(finProdFinEquiv (m := 4) (n := 16) (l, q)).val % 16, by omega⟩ : Fin 16) = q := Fin.ext (Spec.lane_mod l q)
  rw [vLB_apply, hl, hq, proj_apply]
  rw [Spec.lane_div, vTok_apply]
  congr 2
  refine Finset.sum_congr rfl fun d _ => ?_
  rw [vLA_apply, hl, hq, vX_apply, mul_comm]

/-- The kernel's `y` is the specification's. -/
theorem y_eq (c : Dev nD) (r : Fin 384) (o : Fin 20224) :
    yArr m c (ix2 r o) = Spec.out (gX m c) (gW m c) (gS m c) (gA m c) (gB m c) (gT m c) r o := by
  show (∑ k : Fin 3072, codes (vX m c) (ix2 r k) * vW m c (ix2 k o)) * scaleS (vX m c) (ix2 r 0) * vWS m c (ix2 0 o)
    + Ideal.ofBits .f32 0x40000000#32 * ∑ k : Fin 64, proj (vX m c) (vLA m c) (vTok m c) (ix2 r k) * vLB m c (ix2 k o) = _
  unfold Spec.out
  rw [lora_eq, vWS_apply, scaleS_eq]
  rw [Finset.sum_congr rfl fun d _ => show codes (vX m c) (ix2 r d) * vW m c (ix2 d o) = Spec.code (gX m c) r d * gW m c d o by
    rw [codes_eq, vW_apply]]

end Cert.KernelIdeal.Hand

end
-- ==== Proof.RefValue.lean ====
/-
  What the reference leaves in its results, as the specification's functions of the arguments (hand-written, untrusted).
-/
module

public import proofs.«01_k».proof.Proof.Gen.ReferenceIdeal.Frame
public import proofs.«01_k».proof.Proof.Spec
public import Idealize.ShloMosaic.Lib.Pipeline.ValueKit.Point

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.Sem

variable (m : (ℓ : Loc nD τ sig) → Buf (Elt Ideal) ℓ) (ρ : Dev nD → PrngReg)

/-! ## What the reference's kernel leaves, from the arrays it is called with -/

/-- The arrays as the kernel finds them: the activations, the weights, the weights' scales, the adapters' part. -/
abbrev vX (c : Dev nD) : Vec Ideal S384x3072 .bf16 := V m c main_v7
abbrev vW (c : Dev nD) : Vec Ideal S3072x20224 .fp8e4m3 := V m c main_arg1
abbrev vWS (c : Dev nD) : Vec Ideal S1x20224 .f32 := V m c main_v8
abbrev vL (c : Dev nD) : Vec Ideal S384x20224 .f32 := V m c main_v9

/-- Every window's block is the one at the origin. -/
theorem indices : ∀ t : Fin cfg0.N, win0_0.index t 0 = 0 ∧ win0_0.index t 1 = 0 ∧ win0_1.index t 0 = 0 ∧ win0_1.index t 1 = 0
    ∧ win0_2.index t 0 = 0 ∧ win0_2.index t 1 = 0 ∧ win0_3.index t 0 = 0 ∧ win0_3.index t 1 = 0
    ∧ win0_4.index t 0 = 0 ∧ win0_4.index t 1 = 0 ∧ win0_5.index t 0 = 0 ∧ win0_5.index t 1 = 0
    ∧ win0_6.index t 0 = 0 ∧ win0_6.index t 1 = 0 := by decide +kernel

/-- So each input block is the whole array (this and the next three). -/
theorem iblk_0 (c : Dev nD) (t : Fin cfg0.N) : iblk m c 0 t = vX m c := by
  funext j
  obtain ⟨h0, h1, -⟩ := indices t
  blk_ext! [iblk, h0, h1]
theorem iblk_1 (c : Dev nD) (t : Fin cfg0.N) : iblk m c 1 t = vW m c := by
  funext j
  obtain ⟨-, -, h0, h1, -⟩ := indices t
  blk_ext! [iblk, h0, h1]
theorem iblk_2 (c : Dev nD) (t : Fin cfg0.N) : iblk m c 2 t = vWS m c := by
  funext j
  obtain ⟨-, -, -, -, h0, h1, -⟩ := indices t
  blk_ext! [iblk, h0, h1]
theorem iblk_3 (c : Dev nD) (t : Fin cfg0.N) : iblk m c 3 t = vL m c := by
  funext j
  obtain ⟨-, -, -, -, -, -, h0, h1, -⟩ := indices t
  blk_ext! [iblk, h0, h1]

/-- The origin, written as a literal. -/
theorem zero2 : (![0, 0] : Fin 2 → ℕ) = fun _ => 0 := funext fun a => by fin_cases a <;> rfl

/-- The blocks the body leaves are its stores' values. -/
theorem out_4 (x : Vec Ideal S384x3072 .bf16) (w : Vec Ideal S3072x20224 .fp8e4m3) (s : Vec Ideal S1x20224 .f32) (l : Vec Ideal S384x20224 .f32) :
    out0_4 x w s l = k0_pay1 (k0_pay5 x w s) l := by
  unfold out0_4
  rw [View.canon_unit_zero (S := S384x20224) zero2, View.ld_unit_zero (S := S384x3072) zero2, View.ld_unit_zero (S := S3072x20224) zero2,
    View.ld_unit_zero (S := S1x20224) zero2, View.ld_unit_zero (S := S384x20224) zero2]
theorem out_5 (x : Vec Ideal S384x3072 .bf16) (w : Vec Ideal S3072x20224 .fp8e4m3) (s : Vec Ideal S1x20224 .f32) (l : Vec Ideal S384x20224 .f32) :
    out0_5 x w s l = k0_pay4 x := by
  unfold out0_5
  rw [View.canon_unit_zero (S := S384x3072) zero2, View.ld_unit_zero (S := S384x3072) zero2]
theorem out_6 (x : Vec Ideal S384x3072 .bf16) (w : Vec Ideal S3072x20224 .fp8e4m3) (s : Vec Ideal S1x20224 .f32) (l : Vec Ideal S384x20224 .f32) :
    out0_6 x w s l = k0_pay3 x := by
  unfold out0_6
  rw [View.canon_unit_zero (S := S384x1) zero2, View.ld_unit_zero (S := S384x3072) zero2]

/-! ## The results' arrays -/

/-- The block of result 1 is the whole array, and its only one. -/
theorem whole_4 (t : Fin cfg0.N) (G : Vec Ideal S384x20224 .bf16) : win0_4.cut (grid0.coords t) G = (win0_4.blk t).view.read (Elt Ideal) G := by
  obtain ⟨-, -, -, -, -, -, -, -, h0, h1, -⟩ := indices t
  funext j
  have b0 : (j 0).val < 384 := (j 0).isLt
  have b1 : (j 1).val < 20224 := (j 1).isLt
  have e : (win0_4.blk t).view.read (Elt Ideal) G j = G (ix2 ⟨(j 0).val, b0⟩ ⟨(j 1).val, b1⟩) := by
    blk_ext! [h0, h1]
  rw [e]
  exact congrArg G (funext fun a => match a with | ⟨0, _⟩ => rfl | ⟨1, _⟩ => rfl)
/-- The one block of result 1 covers its array. -/
theorem cover_4 (i : S384x20224.Idx) : ∃ t : Fin cfg0.N, (cfg0.win 4).flush t = true ∧ i ∈ ((cfg0.win 4).blk t).view.set := by
  refine ⟨⟨0, by decide⟩, by decide +kernel, ((cfg0.win 4).emb_mem_blk_iff _ i).mpr fun a => ?_⟩
  obtain ⟨-, -, -, -, -, -, -, -, h0, h1, -⟩ := indices ⟨0, by decide⟩
  match a with
  | ⟨0, _⟩ =>
    have b : (i 0).val < 384 := (i 0).isLt
    exact ⟨by show win0_4.index _ 0 * 384 ≤ (i 0).val; rw [h0]; omega, by show (i 0).val < win0_4.index _ 0 * 384 + 384; rw [h0]; omega⟩
  | ⟨1, _⟩ =>
    have b : (i 1).val < 20224 := (i 1).isLt
    exact ⟨by show win0_4.index _ 1 * 20224 ≤ (i 1).val; rw [h1]; omega, by show (i 1).val < win0_4.index _ 1 * 20224 + 20224; rw [h1]; omega⟩
/-- The array `y` ends at the body's value. -/
theorem final_4 (c : Dev nD) : (dats m 0 c).arrAt 4 cfg0.N = k0_pay1 (k0_pay5 (vX m c) (vW m c) (vWS m c)) (vL m c) :=
  (dats m 0 c).arrAt_eq_of_cover 4 (k0_pay1 (k0_pay5 (vX m c) (vW m c) (vWS m c)) (vL m c)) (fun t _ =>
    (congrArg (win0_4.cut (grid0.coords t)) ((after0_4 m c t).trans (by rw [iblk_0, iblk_1, iblk_2, iblk_3, out_4]))).trans (whole_4 t _)) cover_4

/-- The block of result 2 is the whole array, and its only one. -/
theorem whole_5 (t : Fin cfg0.N) (G : Vec Ideal S384x3072 .fp8e4m3) : win0_5.cut (grid0.coords t) G = (win0_5.blk t).view.read (Elt Ideal) G := by
  obtain ⟨-, -, -, -, -, -, -, -, -, -, h0, h1, -⟩ := indices t
  funext j
  have b0 : (j 0).val < 384 := (j 0).isLt
  have b1 : (j 1).val < 3072 := (j 1).isLt
  have e : (win0_5.blk t).view.read (Elt Ideal) G j = G (ix2 ⟨(j 0).val, b0⟩ ⟨(j 1).val, b1⟩) := by
    blk_ext! [h0, h1]
  rw [e]
  exact congrArg G (funext fun a => match a with | ⟨0, _⟩ => rfl | ⟨1, _⟩ => rfl)
/-- The one block of result 2 covers its array. -/
theorem cover_5 (i : S384x3072.Idx) : ∃ t : Fin cfg0.N, (cfg0.win 5).flush t = true ∧ i ∈ ((cfg0.win 5).blk t).view.set := by
  refine ⟨⟨0, by decide⟩, by decide +kernel, ((cfg0.win 5).emb_mem_blk_iff _ i).mpr fun a => ?_⟩
  obtain ⟨-, -, -, -, -, -, -, -, -, -, h0, h1, -⟩ := indices ⟨0, by decide⟩
  match a with
  | ⟨0, _⟩ =>
    have b : (i 0).val < 384 := (i 0).isLt
    exact ⟨by show win0_5.index _ 0 * 384 ≤ (i 0).val; rw [h0]; omega, by show (i 0).val < win0_5.index _ 0 * 384 + 384; rw [h0]; omega⟩
  | ⟨1, _⟩ =>
    have b : (i 1).val < 3072 := (i 1).isLt
    exact ⟨by show win0_5.index _ 1 * 3072 ≤ (i 1).val; rw [h1]; omega, by show (i 1).val < win0_5.index _ 1 * 3072 + 3072; rw [h1]; omega⟩
/-- The codes' array ends at the body's value. -/
theorem final_5 (c : Dev nD) : (dats m 0 c).arrAt 5 cfg0.N = k0_pay4 (vX m c) :=
  (dats m 0 c).arrAt_eq_of_cover 5 (k0_pay4 (vX m c)) (fun t _ =>
    (congrArg (win0_5.cut (grid0.coords t)) ((after0_5 m c t).trans (by rw [iblk_0, iblk_1, iblk_2, iblk_3, out_5]))).trans (whole_5 t _)) cover_5

/-- The block of result 3 is the whole array, and its only one. -/
theorem whole_6 (t : Fin cfg0.N) (G : Vec Ideal S384x1 .f32) : win0_6.cut (grid0.coords t) G = (win0_6.blk t).view.read (Elt Ideal) G := by
  obtain ⟨-, -, -, -, -, -, -, -, -, -, -, -, h0, h1⟩ := indices t
  funext j
  have b0 : (j 0).val < 384 := (j 0).isLt
  have b1 : (j 1).val < 1 := (j 1).isLt
  have e : (win0_6.blk t).view.read (Elt Ideal) G j = G (ix2 ⟨(j 0).val, b0⟩ ⟨(j 1).val, b1⟩) := by
    blk_ext! [h0, h1]
  rw [e]
  exact congrArg G (funext fun a => match a with | ⟨0, _⟩ => rfl | ⟨1, _⟩ => rfl)
/-- The one block of result 3 covers its array. -/
theorem cover_6 (i : S384x1.Idx) : ∃ t : Fin cfg0.N, (cfg0.win 6).flush t = true ∧ i ∈ ((cfg0.win 6).blk t).view.set := by
  refine ⟨⟨0, by decide⟩, by decide +kernel, ((cfg0.win 6).emb_mem_blk_iff _ i).mpr fun a => ?_⟩
  obtain ⟨-, -, -, -, -, -, -, -, -, -, -, -, h0, h1⟩ := indices ⟨0, by decide⟩
  match a with
  | ⟨0, _⟩ =>
    have b : (i 0).val < 384 := (i 0).isLt
    exact ⟨by show win0_6.index _ 0 * 384 ≤ (i 0).val; rw [h0]; omega, by show (i 0).val < win0_6.index _ 0 * 384 + 384; rw [h0]; omega⟩
  | ⟨1, _⟩ =>
    have b : (i 1).val < 1 := (i 1).isLt
    exact ⟨by show win0_6.index _ 1 * 1 ≤ (i 1).val; rw [h1]; omega, by show (i 1).val < win0_6.index _ 1 * 1 + 1; rw [h1]; omega⟩
/-- The scales' array ends at the body's value. -/
theorem final_6 (c : Dev nD) : (dats m 0 c).arrAt 6 cfg0.N = k0_pay3 (vX m c) :=
  (dats m 0 c).arrAt_eq_of_cover 6 (k0_pay3 (vX m c)) (fun t _ =>
    (congrArg (win0_6.cut (grid0.coords t)) ((after0_6 m c t).trans (by rw [iblk_0, iblk_1, iblk_2, iblk_3, out_6]))).trans (whole_6 t _)) cover_6

/-- The reference's run: the results end at the body's values. -/
theorem results : θ_run defs (onTc (τ := τ) (main (F := Ideal))) ⟨m, fun _ => 0, ρ⟩ (fun r => (∀ c : Dev nD,
      r.2.mem ((c.tc : Thread nD τ).loc main_v10_0) = k0_pay1 (k0_pay5 (vX m c) (vW m c) (vWS m c)) (vL m c)
      ∧ r.2.mem ((c.tc : Thread nD τ).loc main_v10_1) = k0_pay4 (vX m c)
      ∧ r.2.mem ((c.tc : Thread nD τ).loc main_v10_2) = k0_pay3 (vX m c))) :=
  (θ_run defs _ _).mono (fun r h => fun c =>
    ⟨((h c).1 4).trans (final_4 m c), ((h c).1 5).trans (final_5 m c), ((h c).1 6).trans (final_6 m c)⟩) (run_main m ρ)

/-! ## The arrays the kernel finds, from the arguments -/

/-- The arguments, index by index. -/
def gX (c : Dev nD) (r : Fin 384) (d : Fin 3072) : EReal := (m ((c.tc : Thread nD τ).loc main_arg0) : Vec Ideal S1x384x3072 .bf16) (ix3 0 r d)
def gW (c : Dev nD) (d : Fin 3072) (o : Fin 20224) : EReal := (m ((c.tc : Thread nD τ).loc main_arg1) : Vec Ideal S3072x20224 .fp8e4m3) (ix2 d o)
def gS (c : Dev nD) (o : Fin 20224) : EReal := (m ((c.tc : Thread nD τ).loc main_arg2) : Vec Ideal S20224 .f32) (ix1 o)
def gA (c : Dev nD) (l : Fin 4) (d : Fin 3072) (q : Fin 16) : EReal := (m ((c.tc : Thread nD τ).loc main_arg3) : Vec Ideal S4x3072x16 .bf16) (ix3 l d q)
def gB (c : Dev nD) (l : Fin 4) (q : Fin 16) (o : Fin 20224) : EReal := (m ((c.tc : Thread nD τ).loc main_arg4) : Vec Ideal S4x16x20224 .bf16) (ix3 l q o)
def gT (c : Dev nD) (r : Fin 384) : BitVec 32 := (m ((c.tc : Thread nD τ).loc main_arg5) : Vec Ideal S1x384 .i32) (ix2 0 r)

/-- The activations the kernel finds are the argument's (and so the weights and their scales, next). -/
theorem vX_apply (c : Dev nD) (r : Fin 384) (d : Fin 3072) : vX m c (ix2 r d) = gX m c r d := by
  simp only [vX, V, hostOps0, hostOps0_1, hostOps0_2, List.flatten_cons, List.flatten_nil, List.append_nil, List.cons_append, List.nil_append]
  entry_read
  pointwise
  rfl
theorem vW_apply (c : Dev nD) (d : Fin 3072) (o : Fin 20224) : vW m c (ix2 d o) = gW m c d o := by
  simp only [vW]
  rw [V_main_arg1]
  rfl
theorem vWS_apply (c : Dev nD) (o : Fin 20224) : vWS m c (ix2 0 o) = gS m c o := by
  simp only [vWS, V, hostOps0, hostOps0_1, hostOps0_2, List.flatten_cons, List.flatten_nil, List.append_nil, List.cons_append, List.nil_append]
  entry_read
  pointwise
  rfl

/-- The equality of two words, as a float. -/
theorem eq_float (a b : BitVec 32) :
    FloatOps.uitofp (F := Ideal) FTy.bf16 (IntOp.cmpi CmpIPredicate.eq a b) = if a = b then (1 : EReal) else 0 := by
  show (((IntOp.cmpi CmpIPredicate.eq a b).toNat : ℝ) : EReal) = _
  by_cases h : a = b
  · subst h
    rw [if_pos rfl]
    simp [IntOp.cmpi]
  · have hb : (a == b) = false := beq_eq_false_iff_ne.mpr h
    rw [if_neg h]
    simp [IntOp.cmpi, hb]

/-- A call's buffer holds what it is given. -/
theorem ofBuf_arg5 (p q r) (v : (⟨S1x384, .i32⟩ : BufTy).Contents (Elt Ideal)) :
    (StableHlo.TRef.of main_arg5 p q r : StableHlo.TRef sig ⟨S1x384, .i32⟩).ofBuf v = v := rfl
theorem toBuf_v2 (p q r) (v : (⟨S1x384x4, .bf16⟩ : BufTy).Contents (Elt Ideal)) :
    (StableHlo.TRef.of main_v2 p q r : StableHlo.TRef sig ⟨S1x384x4, .bf16⟩).toBuf v = v := rfl

set_option maxHeartbeats 800000 in
/-- The adapters' part. -/
theorem vL_apply (c : Dev nD) (r : Fin 384) (o : Fin 20224) :
    vL m c (ix2 r o) = Spec.lora (gX m c) (gA m c) (gB m c) (gT m c) r o := by
  unfold Spec.lora Spec.mask
  simp only [← eq_float]
  simp only [vL, V, hostOps0, hostOps0_1, hostOps0_2, List.flatten_cons, List.flatten_nil, List.append_nil, List.cons_append, List.nil_append]
  entry_read
  simp only [StableHlo.TRef.ofBuf_toBuf, ofBuf_arg5, toBuf_v2]
  pointwise
  rfl

end Cert.ReferenceIdeal.Hand

end
-- ==== Proof.RefSpec.lean ====
/-
  The reference's results are the specification's, where every row's scale argument is zero or normal (hand-written,
  untrusted).
-/
module

public import proofs.«01_k».proof.Proof.RefValue

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.Sem

/-- 125 as a float. -/
theorem ofBits_125 : Ideal.ofBits .f32 1123680256#32 = ((125 : ℝ) : EReal) := by
  simp [Ideal.ofBits, Ideal.ieee]
  rw [← EReal.coe_mul]
  norm_num
/-- One as a float. -/
theorem ofBits_one : Ideal.ofBits .f32 0x3F800000#32 = 1 := by
  simp [Ideal.ofBits, Ideal.ieee]
  rw [← EReal.coe_mul]
  norm_num

/-- Entry `i` of the table of powers. -/
theorem power (i : Fin 252) :
    FloatOps.exp2 (F := Ideal) (φ := .f32) (FloatOps.sitofp (F := Ideal) .f32 (BitVec.ofNat 32 i.val) - Ideal.ofBits .f32 1123680256#32 : EReal)
      = Scale.pow2 ((i.val : ℤ) - 125) := by
  rw [ofBits_125]
  show Ideal.exp2 ((((BitVec.ofNat 32 i.val).toInt : ℝ) : EReal) - ((125 : ℝ) : EReal)) = _
  have e : (BitVec.ofNat 32 i.val).toInt = (i.val : ℤ) := by
    have := i.isLt
    rw [BitVec.toInt_eq_toNat_of_lt] <;> rw [BitVec.toNat_ofNat, Nat.mod_eq_of_lt (by omega)]
    omega
  rw [e, ← EReal.coe_sub, Ideal.exp2_coe]
  have h : (((i.val : ℤ) : ℝ) - 125) = (((i.val : ℤ) - 125 : ℤ) : ℝ) := by push_cast; rfl
  rw [h]
  exact congrArg _ (Real.rpow_intCast 2 _)

/-- The factor 1/448 is not zero. -/
theorem factor_ne : Ideal.ofBits .f32 991054117#32 ≠ 0 := by
  simp [Ideal.ofBits, Ideal.ieee]

/-- The scales. -/
theorem pay3_apply (x : Vec Ideal S384x3072 .bf16) (X : Fin 384 → Fin 3072 → EReal) (hX : ∀ r d, x (ix2 r d) = X r d)
    (r : Fin 384) (z : Fin 1) (h : Scale.Normal (Spec.rowArg X r)) :
    k0_pay3 x (ix2 r z) = Scale.scale (Spec.rowArg X r) := by
  have e : k0_pay3 x (ix2 r z)
      = if Finset.univ.fold max ⊥ (fun d => FloatOps.absf (F := Ideal) (φ := .f32) (X r d)) = 0 then 1 else Scale.least (Spec.rowArg X r) := by
    have e1 : (fun d => FloatOps.absf (F := Ideal) (φ := .f32) (X r d)) = fun d => FloatOps.absf (F := Ideal) (φ := .f32) (x (ix2 r d)) :=
      funext fun d => by rw [hX]
    unfold Scale.least Spec.rowArg
    rw [e1]
    simp only [← power, ← Spec.bot_f32, ← Spec.top_f32]
    pointwise [k0_pay2, k0_pay3]
  rw [e]
  by_cases h0 : Finset.univ.fold max ⊥ (fun d => FloatOps.absf (F := Ideal) (φ := .f32) (X r d)) = 0
  · rw [if_pos h0]
    have hv : Spec.rowArg X r = 0 := by unfold Spec.rowArg; rw [h0, zero_mul]
    rw [hv, Scale.scale_zero]
  · rw [if_neg h0]
    rcases h with h | ⟨h1, h2⟩
    · exact absurd h (mul_ne_zero h0 factor_ne)
    · exact Scale.least_normal _ h1 h2

/-- The codes. -/
theorem pay4_apply (x : Vec Ideal S384x3072 .bf16) (X : Fin 384 → Fin 3072 → EReal) (hX : ∀ r d, x (ix2 r d) = X r d)
    (r : Fin 384) (d : Fin 3072) (h : Scale.Normal (Spec.rowArg X r)) :
    k0_pay4 x (ix2 r d) = Spec.code X r d := by
  unfold Spec.code
  rw [← Scale.one_div_scale _ h, ← pay3_apply x X hX r 0 h, ← hX, ← ofBits_one]
  generalize hs : k0_pay3 x = s
  unfold k0_pay4
  simp only [hs]
  pointwise [k0_pay2]

/-! ## The results -/

variable (m : (ℓ : Loc nD τ sig) → Buf (Elt Ideal) ℓ) (c : Dev nD) (h : ∀ r, Scale.Normal (Spec.rowArg (gX m c) r))
include h

/-- The reference's codes are the specification's. -/
theorem codes_eq (r : Fin 384) (d : Fin 3072) : k0_pay4 (vX m c) (ix2 r d) = Spec.code (gX m c) r d :=
  pay4_apply _ _ (vX_apply m c) r d (h r)

/-- The reference's scales are the specification's. -/
theorem scale_eq (r : Fin 384) (z : Fin 1) : k0_pay3 (vX m c) (ix2 r z) = Scale.scale (Spec.rowArg (gX m c) r) :=
  pay3_apply _ _ (vX_apply m c) r z (h r)

/-- The reference's `y` is the specification's. -/
theorem y_eq (r : Fin 384) (o : Fin 20224) :
    k0_pay1 (k0_pay5 (vX m c) (vW m c) (vWS m c)) (vL m c) (ix2 r o)
      = Spec.out (gX m c) (gW m c) (gS m c) (gA m c) (gB m c) (gT m c) r o := by
  unfold Spec.out
  rw [← scale_eq m c h r 0, ← vL_apply, ← vWS_apply,
    Finset.sum_congr rfl fun d _ => by rw [← codes_eq m c h, ← vW_apply]]
  generalize vX m c = x
  generalize vW m c = w
  generalize vWS m c = s
  generalize vL m c = l
  generalize hs : k0_pay3 x = s3
  generalize hq : k0_pay4 x = q
  unfold k0_pay1 k0_pay5
  simp only [hs, hq]
  pointwise

end Cert.ReferenceIdeal.Hand

end
-- ==== Proof.Rows.lean ====
/-
  What the precondition says (hand-written, untrusted): every row's scale argument is zero or normal.
-/
module

public import proofs.«01_k».proof.Proof.Gen.Pre_normal_rows
public import proofs.«01_k».proof.Proof.Spec
public import Idealize.ShloMosaic.Lib.Pipeline.ValueKit.Point

@[expose] public section

set_option maxRecDepth 16384

noncomputable section

namespace Cert.Pre_normal_rows.Hand

open Cert.Pre_normal_rows Cert.Pre_normal_rows.Gen
open Idealize.ShloMosaic Idealize.ShloMosaic.TcCoe Idealize.ShloMosaic.Tactic

/-- The limits' patterns. -/
theorem low : Ideal.ofBits .f32 8388608#32 = Scale.pow2 (-126) := Scale.ofBits_field 1 (by omega) (by omega)
theorem high : Ideal.ofBits .f32 2122317824#32 = Scale.pow2 126 := Scale.ofBits_field 253 (by omega) (by omega)

/-- The three tests of a number, joined, hold only of zero and of normal numbers. -/
theorem tests (v : EReal)
    (h : IntOp.ori (BitVec.ofBool (decide (v = 0))) (IntOp.andi (BitVec.ofBool (decide (Scale.pow2 (-126) ≤ v))) (BitVec.ofBool (decide (v < Scale.pow2 126))))
      = 1#1) : Scale.Normal v := by
  unfold Scale.Normal
  by_cases h0 : v = 0
  · exact .inl h0
  · refine .inr ⟨?_, ?_⟩
    · by_contra h1
      rw [decide_eq_false h0, decide_eq_false h1] at h
      revert h
      cases decide (v < Scale.pow2 126) <;> decide
    · by_contra h1
      rw [decide_eq_false h0, decide_eq_false h1] at h
      revert h
      cases decide (Scale.pow2 (-126) ≤ v) <;> decide

/-- The precondition's function is all ones only where every row's scale argument is zero or normal. -/
theorem rows (a0 : Vec Ideal S1x384x3072 .bf16) (a1 : Vec Ideal S3072x20224 .fp8e4m3) (a2 : Vec Ideal S20224 .f32) (a3 : Vec Ideal S4x3072x16 .bf16)
    (a4 : Vec Ideal S4x16x20224 .bf16) (a5 : Vec Ideal S1x384 .i32)
    (h : fn (F := Ideal) a0 a1 a2 a3 a4 a5 = fun _ => 1#1) (X : Fin 384 → Fin 3072 → EReal) (hX : ∀ r d, X r d = a0 (ix3 0 r d)) (r : Fin 384) :
    Scale.Normal (Spec.rowArg X r) := by
  apply tests
  have e : X = fun r d => a0 (ix3 0 r d) := funext fun r => funext fun d => hX r d
  subst e
  rw [← congrFun h (ix2 0 r), ← low, ← high]
  unfold Spec.rowArg
  rw [← Spec.bot_f32]
  symm
  pointwise [fn]

end Cert.Pre_normal_rows.Hand

end
-- ==== Proof.Algebraic.lean ====
/-
  The idealized kernel and the reference end with the same results (hand-written, untrusted): both leave the
  specification's functions of the arguments, the reference where every row's scale argument is zero or normal, which
  the precondition says.
-/
module

public import proofs.«01_k».proof.Defs
public import proofs.«01_k».proof.Proof.IdealValue
public import proofs.«01_k».proof.Proof.IdealSpec
public import proofs.«01_k».proof.Proof.RefSpec
public import proofs.«01_k».proof.Proof.Rows

@[expose] public section

set_option maxRecDepth 16384

noncomputable section

namespace Cert.Algebraic

open Idealize.ShloMosaic Idealize.ShloMosaic.TcCoe Idealize.SL Idealize.SL.Sem

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)

/-- The two memories hold the same arguments on device `c`. -/
def Same (c : Dev KernelIdeal.nD) : Prop :=
  m' ((c.tc : Thread ReferenceIdeal.nD ReferenceIdeal.τ).loc ReferenceIdeal.main_arg0) = m ((c.tc : Thread KernelIdeal.nD KernelIdeal.τ).loc KernelIdeal.main_arg0)
  ∧ m' ((c.tc : Thread ReferenceIdeal.nD ReferenceIdeal.τ).loc ReferenceIdeal.main_arg1) = m ((c.tc : Thread KernelIdeal.nD KernelIdeal.τ).loc KernelIdeal.main_arg1)
  ∧ m' ((c.tc : Thread ReferenceIdeal.nD ReferenceIdeal.τ).loc ReferenceIdeal.main_arg2) = m ((c.tc : Thread KernelIdeal.nD KernelIdeal.τ).loc KernelIdeal.main_arg2)
  ∧ m' ((c.tc : Thread ReferenceIdeal.nD ReferenceIdeal.τ).loc ReferenceIdeal.main_arg3) = m ((c.tc : Thread KernelIdeal.nD KernelIdeal.τ).loc KernelIdeal.main_arg3)
  ∧ m' ((c.tc : Thread ReferenceIdeal.nD ReferenceIdeal.τ).loc ReferenceIdeal.main_arg4) = m ((c.tc : Thread KernelIdeal.nD KernelIdeal.τ).loc KernelIdeal.main_arg4)
  ∧ m' ((c.tc : Thread ReferenceIdeal.nD ReferenceIdeal.τ).loc ReferenceIdeal.main_arg5) = m ((c.tc : Thread KernelIdeal.nD KernelIdeal.τ).loc KernelIdeal.main_arg5)

variable {m m'} {c : Dev KernelIdeal.nD}

/-! ## The arguments, index by index, are the same -/

/-- The activations; the weights, their scales, the adapters' factors and the tokens' adapters follow. -/
theorem gX_eq (h : Same m m' c) : ReferenceIdeal.Hand.gX m' c = KernelIdeal.Hand.gX m c :=
  funext fun r => funext fun d => congrFun h.1 (ix3 0 r d)
theorem gW_eq (h : Same m m' c) : ReferenceIdeal.Hand.gW m' c = KernelIdeal.Hand.gW m c :=
  funext fun d => funext fun o => congrFun h.2.1 (ix2 d o)
theorem gS_eq (h : Same m m' c) : ReferenceIdeal.Hand.gS m' c = KernelIdeal.Hand.gS m c :=
  funext fun o => congrFun h.2.2.1 (ix1 o)
theorem gA_eq (h : Same m m' c) : ReferenceIdeal.Hand.gA m' c = KernelIdeal.Hand.gA m c :=
  funext fun l => funext fun d => funext fun q => congrFun h.2.2.2.1 (ix3 l d q)
theorem gB_eq (h : Same m m' c) : ReferenceIdeal.Hand.gB m' c = KernelIdeal.Hand.gB m c :=
  funext fun l => funext fun q => funext fun o => congrFun h.2.2.2.2.1 (ix3 l q o)
theorem gT_eq (h : Same m m' c) : ReferenceIdeal.Hand.gT m' c = KernelIdeal.Hand.gT m c :=
  funext fun r => congrFun h.2.2.2.2.2 (ix2 0 r)

/-! ## The results are the same -/

/-- What the precondition says of the rows. -/
theorem normal (hp : Pre_KernelIdeal_normal_rows m) (c : Dev KernelIdeal.nD) (r : Fin 384) :
    Scale.Normal (Spec.rowArg (KernelIdeal.Hand.gX m c) r) :=
  Pre_normal_rows.Hand.rows _ _ _ _ _ _ (hp c) _ (fun _ _ => rfl) r

/-- The reference's rows are the kernel's. -/
theorem normal' (hp : Pre_KernelIdeal_normal_rows m) (h : Same m m' c) (r : Fin 384) :
    Scale.Normal (Spec.rowArg (ReferenceIdeal.Hand.gX m' c) r) := by
  rw [gX_eq h]
  exact normal hp c r

open ReferenceIdeal.Gen in
/-- The results `y`. -/
theorem y_same (hp : Pre_KernelIdeal_normal_rows m) (h : Same m m' c) :
    k0_pay1 (k0_pay5 (ReferenceIdeal.Hand.vX m' c) (ReferenceIdeal.Hand.vW m' c) (ReferenceIdeal.Hand.vWS m' c)) (ReferenceIdeal.Hand.vL m' c)
      = KernelIdeal.Hand.yArr m c := by
  funext j
  obtain ⟨j0, j1, rfl⟩ : ∃ (j0 : Fin 384) (j1 : Fin 20224), j = ix2 j0 j1 := ⟨j 0, j 1, eq_ix2 j⟩
  rw [ReferenceIdeal.Hand.y_eq m' c (normal' hp h), gX_eq h, gW_eq h, gS_eq h, gA_eq h, gB_eq h, gT_eq h]
  exact (KernelIdeal.Hand.y_eq m c _ _).symm

open ReferenceIdeal.Gen in
/-- The codes. -/
theorem codes_same (hp : Pre_KernelIdeal_normal_rows m) (h : Same m m' c) :
    k0_pay4 (ReferenceIdeal.Hand.vX m' c) = KernelIdeal.Hand.codes (KernelIdeal.Hand.vX m c) := by
  funext j
  obtain ⟨j0, j1, rfl⟩ : ∃ (j0 : Fin 384) (j1 : Fin 3072), j = ix2 j0 j1 := ⟨j 0, j 1, eq_ix2 j⟩
  rw [ReferenceIdeal.Hand.codes_eq m' c (normal' hp h), gX_eq h]
  exact (KernelIdeal.Hand.codes_eq m c _ _).symm

open ReferenceIdeal.Gen in
/-- The scales. -/
theorem scale_same (hp : Pre_KernelIdeal_normal_rows m) (h : Same m m' c) :
    k0_pay3 (ReferenceIdeal.Hand.vX m' c) = KernelIdeal.Hand.scale (KernelIdeal.Hand.vX m c) := by
  funext j
  obtain ⟨j0, j1, rfl⟩ : ∃ (j0 : Fin 384) (j1 : Fin 1), j = ix2 j0 j1 := ⟨j 0, j 1, eq_ix2 j⟩
  rw [ReferenceIdeal.Hand.scale_eq m' c (normal' hp h), gX_eq h]
  exact (KernelIdeal.Hand.scale_eq m c _ _).symm

/-- The claim: from the same arguments, both programs run and end with the same three results, their arguments unchanged. -/
theorem algebraic : algebraic_KernelIdeal_ReferenceIdeal_pre_normal_rows := by
  intro m g m' g' hp ha
  refine ⟨fun c => KernelIdeal.Hand.yArr m c, fun c => KernelIdeal.Hand.codes (KernelIdeal.Hand.vX m c),
    fun c => KernelIdeal.Hand.scale (KernelIdeal.Hand.vX m c), ?_, ?_⟩
  · refine θ_run_mono (θ_run_and (KernelIdeal.Hand.results m g) (KernelIdeal.Hand.frame m g)) fun r hr c => ?_
    exact ⟨(hr.1 c).1, (hr.1 c).2.1, (hr.1 c).2.2, hr.2.1 c⟩
  · refine θ_run_mono (θ_run_and (ReferenceIdeal.Hand.results m' g') (ReferenceIdeal.Gen.frame m' g')) fun r hr c => ?_
    exact ⟨(hr.1 c).1.trans (y_same hp (ha c)), (hr.1 c).2.1.trans (codes_same hp (ha c)),
      (hr.1 c).2.2.trans (scale_same hp (ha c)), hr.2.1 c⟩

end Cert.Algebraic

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_normal_rows
public import proofs.«01_k».proof.Proof.KernelFrame
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_normal_rows.Gen.facts,
  fun m ρ _ => Cert.Kernel.Hand.frame m ρ,
  fun m ρ _ => Cert.KernelIdeal.Hand.frame m ρ,
  fun m ρ _ => Cert.KernelIdeal.Hand.frame m ρ,
  fun m ρ _ => Cert.ReferenceIdeal.Gen.frame m ρ,
  fun m ρ _ => Cert.ReferenceIdeal.Gen.frame m ρ,
  trivial,
  Cert.Algebraic.algebraic⟩

end Cert.Proof

end
